-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![2048, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S2048x2048 : Shape := ⟨2, ![2048, 2048]⟩
abbrev S512x2048 : Shape := ⟨2, ![512, 2048]⟩
abbrev S4x512x512 : Shape := ⟨3, ![4, 512, 512]⟩
abbrev S4x512x2048 : Shape := ⟨3, ![4, 512, 2048]⟩
abbrev S6 : Shape := ⟨1, ![6]⟩
abbrev S4 : Shape := ⟨1, ![4]⟩
abbrev S_ : Shape := ⟨0, ![]⟩
abbrev S1 : Shape := ⟨1, ![1]⟩
abbrev S1x512x512 : Shape := ⟨3, ![1, 512, 512]⟩
abbrev S512x512 : Shape := ⟨2, ![512, 512]⟩
abbrev S1x128x512 : Shape := ⟨3, ![1, 128, 512]⟩
abbrev S128x512 : Shape := ⟨2, ![128, 512]⟩
abbrev S1x512x2048 : Shape := ⟨3, ![1, 512, 2048]⟩
abbrev S128x2048 : Shape := ⟨2, ![128, 2048]⟩

abbrev nBuf : Space → Nat
  | .hbm => 3
  | .vmem => 4
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S512x2048, .f32⟩
  | .local _ .vmem, ⟨0, _⟩ => ⟨S2048x512, .bf16⟩
  | .local _ .vmem, ⟨1, _⟩ => ⟨S4x512x512, .bf16⟩
  | .local _ .vmem, ⟨2, _⟩ => ⟨S4x512x2048, .bf16⟩
  | .local _ .vmem, ⟨3, _⟩ => ⟨S512x2048, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_18 : BitVec 32 := 0#32
  let c0_i32_19 : BitVec 32 := 0#32
  ![v2.toNat, 0, 0]
def k0_off3 (d0 : Dev nD) (c1_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c512_i32 : BitVec 32 := 512#32
  let v18 : BitVec 32 := Scalar.muli v17 c512_i32
  let c0_i32_20 : BitVec 32 := 0#32
  ![v18.toNat, 0]
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_16 : BitVec 32 := 1#32
  let v19 : BitVec 32 := Scalar.muli v17 c1_i32_16
  let v20 : BitVec 32 := Scalar.addi c0_i32_17 v19
  v20.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_21 : BitVec 32 := 3#32
  let v28 : BitVec 32 := Scalar.addi v2 c3_i32_21
  let c4_i32_22 : BitVec 32 := 4#32
  let v29 : BitVec 32 := Scalar.remsi v28 c4_i32_22
  let c1_i32_25 : BitVec 32 := 1#32
  let v31 : BitVec 32 := Scalar.muli v29 c1_i32_25
  let v32 : BitVec 32 := Scalar.addi c0_i32_26 v31
  v32.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_38 : BitVec 32 := 0#32
  let c0_i32_39 : BitVec 32 := 0#32
  ![v2.toNat, 0, 0]
def k0_off5 (d0 : Dev nD) (c0_i32_33 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v40 : BitVec 32 := Scalar.addi v2 c2_i32_30
  let c4_i32_31 : BitVec 32 := 4#32
  let v41 : BitVec 32 := Scalar.remsi v40 c4_i32_31
  let c512_i32_32 : BitVec 32 := 512#32
  let v42 : BitVec 32 := Scalar.muli v41 c512_i32_32
  let v43 : BitVec 32 := Scalar.addi v42 c0_i32_33
  let c0_i32_40 : BitVec 32 := 0#32
  ![v43.toNat, 0]
def k0_dev6 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v40 : BitVec 32 := Scalar.addi v2 c2_i32_30
  let c4_i32_31 : BitVec 32 := 4#32
  let v41 : BitVec 32 := Scalar.remsi v40 c4_i32_31
  let c1_i32_36 : BitVec 32 := 1#32
  let v44 : BitVec 32 := Scalar.muli v41 c1_i32_36
  let v45 : BitVec 32 := Scalar.addi c0_i32_37 v44
  v45.toNat
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_46 : BitVec 32 := 128#32
  let c0_i32_47 : BitVec 32 := 0#32
  ![v2.toNat, 128, 0]
def k0_dev7 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v40 : BitVec 32 := Scalar.addi v2 c2_i32_30
  let c4_i32_31 : BitVec 32 := 4#32
  let v41 : BitVec 32 := Scalar.remsi v40 c4_i32_31
  let c1_i32_44 : BitVec 32 := 1#32
  let v55 : BitVec 32 := Scalar.muli v41 c1_i32_44
  let v56 : BitVec 32 := Scalar.addi c0_i32_45 v55
  v56.toNat
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_54 : BitVec 32 := 256#32
  let c0_i32_55 : BitVec 32 := 0#32
  ![v2.toNat, 256, 0]
def k0_dev8 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v40 : BitVec 32 := Scalar.addi v2 c2_i32_30
  let c4_i32_31 : BitVec 32 := 4#32
  let v41 : BitVec 32 := Scalar.remsi v40 c4_i32_31
  let c1_i32_52 : BitVec 32 := 1#32
  let v66 : BitVec 32 := Scalar.muli v41 c1_i32_52
  let v67 : BitVec 32 := Scalar.addi c0_i32_53 v66
  v67.toNat
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_61 : BitVec 32 := 384#32
  let c0_i32_62 : BitVec 32 := 0#32
  ![v2.toNat, 384, 0]
def k0_dev9 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v40 : BitVec 32 := Scalar.addi v2 c2_i32_30
  let c4_i32_31 : BitVec 32 := 4#32
  let v41 : BitVec 32 := Scalar.remsi v40 c4_i32_31
  let c1_i32_59 : BitVec 32 := 1#32
  let v77 : BitVec 32 := Scalar.muli v41 c1_i32_59
  let v78 : BitVec 32 := Scalar.addi c0_i32_60 v77
  v78.toNat
def k0_off9 (d0 : Dev nD) (c0_i32_64 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v86 : BitVec 32 := Scalar.addi v2 c0_i32_64
  let c4_i32_65 : BitVec 32 := 4#32
  let v87 : BitVec 32 := Scalar.remsi v86 c4_i32_65
  let c512_i32_66 : BitVec 32 := 512#32
  let v88 : BitVec 32 := Scalar.muli v87 c512_i32_66
  let c0_i32_71 : BitVec 32 := 0#32
  ![v88.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_101 : BitVec 32 := 512#32
  let v123 : BitVec 32 := Scalar.muli v2 c512_i32_101
  let v124 : Index := Scalar.indexCast v123
  let c0 : Index := 0#32
  ![v124.toNat, 0]
def k0_off11 (d0 : Dev nD) (c3_i32_107 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v133 : BitVec 32 := Scalar.addi v2 c3_i32_107
  let c4_i32_108 : BitVec 32 := 4#32
  let v134 : BitVec 32 := Scalar.remsi v133 c4_i32_108
  ![v134.toNat]
def k0_off12 (d0 : Dev nD) (c3_i32_107 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v133 : BitVec 32 := Scalar.addi v2 c3_i32_107
  let c4_i32_108 : BitVec 32 := 4#32
  let v134 : BitVec 32 := Scalar.remsi v133 c4_i32_108
  let c0_i32_112 : BitVec 32 := 0#32
  let c0_i32_113 : BitVec 32 := 0#32
  ![v134.toNat, 0, 0]
def k0_off13 (d0 : Dev nD) (c3_i32_107 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v133 : BitVec 32 := Scalar.addi v2 c3_i32_107
  let c4_i32_108 : BitVec 32 := 4#32
  let v134 : BitVec 32 := Scalar.remsi v133 c4_i32_108
  let v148 : Index := Scalar.indexCast v134
  let c0_123 : Index := 0#32
  let c0_124 : Index := 0#32
  ![v148.toNat, 0, 0]
def k0_off14 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v40 : BitVec 32 := Scalar.addi v2 c2_i32_30
  let c4_i32_31 : BitVec 32 := 4#32
  let v41 : BitVec 32 := Scalar.remsi v40 c4_i32_31
  let c0_i32_162 : BitVec 32 := 0#32
  let c0_i32_163 : BitVec 32 := 0#32
  ![v41.toNat, 0, 0]
def k0_off15 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v40 : BitVec 32 := Scalar.addi v2 c2_i32_30
  let c4_i32_31 : BitVec 32 := 4#32
  let v41 : BitVec 32 := Scalar.remsi v40 c4_i32_31
  let v196 : Index := Scalar.indexCast v41
  let c0_168 : Index := 0#32
  let c0_169 : Index := 0#32
  ![v196.toNat, 0, 0]
def k0_off16 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v40 : BitVec 32 := Scalar.addi v2 c2_i32_30
  let c4_i32_31 : BitVec 32 := 4#32
  let v41 : BitVec 32 := Scalar.remsi v40 c4_i32_31
  let c128_i32_184 : BitVec 32 := 128#32
  let c0_i32_185 : BitVec 32 := 0#32
  ![v41.toNat, 128, 0]
def k0_off17 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v40 : BitVec 32 := Scalar.addi v2 c2_i32_30
  let c4_i32_31 : BitVec 32 := 4#32
  let v41 : BitVec 32 := Scalar.remsi v40 c4_i32_31
  let v218 : Index := Scalar.indexCast v41
  let c128_189 : Index := 128#32
  let c0_190 : Index := 0#32
  ![v218.toNat, 128, 0]
def k0_off18 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v40 : BitVec 32 := Scalar.addi v2 c2_i32_30
  let c4_i32_31 : BitVec 32 := 4#32
  let v41 : BitVec 32 := Scalar.remsi v40 c4_i32_31
  let c256_i32_206 : BitVec 32 := 256#32
  let c0_i32_207 : BitVec 32 := 0#32
  ![v41.toNat, 256, 0]
def k0_off19 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v40 : BitVec 32 := Scalar.addi v2 c2_i32_30
  let c4_i32_31 : BitVec 32 := 4#32
  let v41 : BitVec 32 := Scalar.remsi v40 c4_i32_31
  let v240 : Index := Scalar.indexCast v41
  let c256_211 : Index := 256#32
  let c0_212 : Index := 0#32
  ![v240.toNat, 256, 0]
def k0_off20 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v40 : BitVec 32 := Scalar.addi v2 c2_i32_30
  let c4_i32_31 : BitVec 32 := 4#32
  let v41 : BitVec 32 := Scalar.remsi v40 c4_i32_31
  let c384_i32_228 : BitVec 32 := 384#32
  let c0_i32_229 : BitVec 32 := 0#32
  ![v41.toNat, 384, 0]
def k0_off21 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v40 : BitVec 32 := Scalar.addi v2 c2_i32_30
  let c4_i32_31 : BitVec 32 := 4#32
  let v41 : BitVec 32 := Scalar.remsi v40 c4_i32_31
  let v262 : Index := Scalar.indexCast v41
  let c384_233 : Index := 384#32
  let c0_234 : Index := 0#32
  ![v262.toNat, 384, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Geometry.lean ====
/-
# Where the kernel's transfers, loads and stores lie

Four devices stand in a cycle. Device `c` keeps a column block of `x` (2048 rows of 512 columns) and all of `w`.
It sends the row block `j` of its column block to device `j`, and gathers from every other device the row block `c`
of theirs, in slot `j` of the gather buffer. This module names the peers, states the printed device ids, offsets and
semaphores in closed form, and describes the regions the views cover: bands of rows of a matrix, and bands of rows of
one slot of a stack of matrices.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.ValueLayout
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI

/-! ## The peers -/

/-- The device `k` places further along the cycle. -/
def up (k : ℕ) (c : Dev nD) : Dev nD := ⟨(c.val + k) % 4, Nat.mod_lt _ (by decide)⟩

/-- The printed device ids name the peers one, two and three places on. -/
theorem dev1_eq (c : Dev nD) : (⟨k0_dev1 c, k0_dev1_lt c⟩ : Dev nD) = up 1 c := by revert c; decide
theorem dev2_eq (c : Dev nD) : (⟨k0_dev2 c, k0_dev2_lt c⟩ : Dev nD) = up 2 c := by revert c; decide
theorem dev3_eq (c : Dev nD) : (⟨k0_dev3 c, k0_dev3_lt c⟩ : Dev nD) = up 3 c := by revert c; decide
theorem dev4_eq (c : Dev nD) : (⟨k0_dev4 c, k0_dev4_lt c⟩ : Dev nD) = up 1 c := by revert c; decide
theorem dev5_eq (c : Dev nD) : (⟨k0_dev5 c, k0_dev5_lt c⟩ : Dev nD) = up 3 c := by revert c; decide
theorem dev6_eq (c : Dev nD) : (⟨k0_dev6 c, k0_dev6_lt c⟩ : Dev nD) = up 2 c := by revert c; decide
theorem dev7_eq (c : Dev nD) : (⟨k0_dev7 c, k0_dev7_lt c⟩ : Dev nD) = up 2 c := by revert c; decide
theorem dev8_eq (c : Dev nD) : (⟨k0_dev8 c, k0_dev8_lt c⟩ : Dev nD) = up 2 c := by revert c; decide
theorem dev9_eq (c : Dev nD) : (⟨k0_dev9 c, k0_dev9_lt c⟩ : Dev nD) = up 2 c := by revert c; decide

/-! ## The offsets

The row offsets in `x` and `w` are multiples of a block of 512 rows (and of a quarter block of 128 rows for the
pieces sent to the opposite device); in the gather buffer the first coordinate is the slot. -/

theorem off2_eq (c : Dev nD) : k0_off2 c = ![c.val, 0, 0] := by revert c; decide
theorem off3_eq1 (c : Dev nD) : k0_off3 c 1#32 = ![512 * (up 1 c).val, 0] := by revert c; decide
theorem off3_eq3 (c : Dev nD) : k0_off3 c 3#32 = ![512 * (up 3 c).val, 0] := by revert c; decide
theorem off4_eq (c : Dev nD) : k0_off4 c = ![c.val, 128 * 0, 0] := by revert c; decide
theorem off6_eq (c : Dev nD) : k0_off6 c = ![c.val, 128 * 1, 0] := by revert c; decide
theorem off7_eq (c : Dev nD) : k0_off7 c = ![c.val, 128 * 2, 0] := by revert c; decide
theorem off8_eq (c : Dev nD) : k0_off8 c = ![c.val, 128 * 3, 0] := by revert c; decide
theorem off5_eq0 (c : Dev nD) : k0_off5 c 0#32 = ![512 * (up 2 c).val + 128 * 0, 0] := by revert c; decide
theorem off5_eq1 (c : Dev nD) : k0_off5 c 128#32 = ![512 * (up 2 c).val + 128 * 1, 0] := by revert c; decide
theorem off5_eq2 (c : Dev nD) : k0_off5 c 256#32 = ![512 * (up 2 c).val + 128 * 2, 0] := by revert c; decide
theorem off5_eq3 (c : Dev nD) : k0_off5 c 384#32 = ![512 * (up 2 c).val + 128 * 3, 0] := by revert c; decide
theorem off9_eq0 (c : Dev nD) : k0_off9 c 0#32 = ![512 * c.val, 0] := by revert c; decide
theorem off9_eq1 (c : Dev nD) : k0_off9 c 1#32 = ![512 * (up 1 c).val, 0] := by revert c; decide
theorem off9_eq2 (c : Dev nD) : k0_off9 c 2#32 = ![512 * (up 2 c).val, 0] := by revert c; decide
theorem off9_eq3 (c : Dev nD) : k0_off9 c 3#32 = ![512 * (up 3 c).val, 0] := by revert c; decide
theorem off10_eq (c : Dev nD) : k0_off10 c = ![512 * c.val, 0] := by revert c; decide
theorem off12_eq1 (c : Dev nD) : k0_off12 c 1#32 = ![(up 1 c).val, 0, 0] := by revert c; decide
theorem off12_eq3 (c : Dev nD) : k0_off12 c 3#32 = ![(up 3 c).val, 0, 0] := by revert c; decide
theorem off13_eq1 (c : Dev nD) : k0_off13 c 1#32 = ![(up 1 c).val, 0, 0] := by revert c; decide
theorem off13_eq3 (c : Dev nD) : k0_off13 c 3#32 = ![(up 3 c).val, 0, 0] := by revert c; decide
theorem off15_eq (c : Dev nD) : k0_off15 c = ![(up 2 c).val, 128 * 0, 0] := by revert c; decide
theorem off17_eq (c : Dev nD) : k0_off17 c = ![(up 2 c).val, 128 * 1, 0] := by revert c; decide
theorem off19_eq (c : Dev nD) : k0_off19 c = ![(up 2 c).val, 128 * 2, 0] := by revert c; decide
theorem off21_eq (c : Dev nD) : k0_off21 c = ![(up 2 c).val, 128 * 3, 0] := by revert c; decide

/-! ## The buffers and the semaphores -/

abbrev xM : Memref sig .tc .vmem S2048x512 .bf16 := Memref.whole cc0_stg0_0
abbrev wM : Memref sig .tc .hbm S2048x2048 .bf16 := Memref.whole main_arg1
abbrev oM : Memref sig .tc .hbm S512x2048 .f32 := Memref.whole main_v1
abbrev gM : Memref sig .tc .vmem S4x512x512 .bf16 := Memref.whole cc0_scratch0
abbrev vM : Memref sig .tc .vmem S4x512x2048 .bf16 := Memref.whole cc0_scratch1
abbrev aM : Memref sig .tc .vmem S512x2048 .f32 := Memref.whole cc0_scratch2

/-- The runtime's barrier semaphore of the kernel's collective. -/
abbrev barS : Sem sig := (SemArray.scalar (sig.barrier 0 rfl) : Sems sig S_).sem

/-- The cell of device `c`'s barrier semaphore, and of its DMA semaphore `k`. -/
abbrev bar (c : Dev nD) : GSem nD τ sig := ((c : Thread nD τ), .reg barS)
abbrev dcell (c : Dev nD) (k : DmaSem sig) : GSem nD τ sig := ((c : Thread nD τ), .dma k)

/-- The receive semaphore of slot `j`: one of four in a row, from number 7 on. -/
def recvS (j : Dev nD) : DmaSem sig := ⟨7 + j.val, by have := j.isLt; simp only [nD] at this; show 7 + j.val < 23; omega⟩

/-- The printed receive semaphores are the ones of the sender's slot, -/
theorem sem_off1 (c : Dev nD) :
    ((cc0_scratch4 : DmaSems sig S4).slice (Rect.unit (s := S4) (k0_off1 c) S1.size (k0_off1_inb c)) |>.squeeze S_ squeezes_S1_S_).sem
      = recvS c := by revert c; decide
/-- and at the receiver those of the peers one and three places on. -/
theorem sem_off11_1 (c : Dev nD) :
    ((cc0_scratch4 : DmaSems sig S4).slice (Rect.unit (s := S4) (k0_off11 c 1#32) S1.size (k0_off11_inb c 0)) |>.squeeze S_ squeezes_S1_S_).sem
      = recvS (up 1 c) := by revert c; decide
theorem sem_off11_3 (c : Dev nD) :
    ((cc0_scratch4 : DmaSems sig S4).slice (Rect.unit (s := S4) (k0_off11 c 3#32) S1.size (k0_off11_inb c 1)) |>.squeeze S_ squeezes_S1_S_).sem
      = recvS (up 3 c) := by revert c; decide

/-! ## Bands of rows -/

/-- The rows `a … a + len - 1` of an `m × n` matrix. -/
def rows {m n : ℕ} (a len : ℕ) : Finset (⟨2, ![m, n]⟩ : Shape).Idx :=
  Finset.univ.filter fun i => a ≤ (i 0).val ∧ (i 0).val < a + len

/-- The rows `a … a + len - 1` of matrix `j` in a stack of `p` matrices. -/
def slab {p m n : ℕ} (j a len : ℕ) : Finset (⟨3, ![p, m, n]⟩ : Shape).Idx :=
  Finset.univ.filter fun i => (i 0).val = j ∧ a ≤ (i 1).val ∧ (i 1).val < a + len

theorem mem_rows {m n a len : ℕ} {i : (⟨2, ![m, n]⟩ : Shape).Idx} :
    i ∈ rows a len ↔ a ≤ (i 0).val ∧ (i 0).val < a + len := by simp [rows]

theorem mem_slab {p m n j a len : ℕ} {i : (⟨3, ![p, m, n]⟩ : Shape).Idx} :
    i ∈ slab j a len ↔ (i 0).val = j ∧ a ≤ (i 1).val ∧ (i 1).val < a + len := by simp [slab]

/-- A rectangle of full rows covers the band of its rows. -/
theorem rect_rows {m n a len : ℕ} {off : Fin 2 → ℕ} (h : off = ![a, 0])
    (inb : ∀ d, off d + (⟨2, ![len, n]⟩ : Shape).size d ≤ (⟨2, ![m, n]⟩ : Shape).size d) :
    (Rect.unit (s := ⟨2, ![m, n]⟩) off (⟨2, ![len, n]⟩ : Shape).size inb).set = rows a len := by
  subst h
  ext i
  rw [Rect.mem_set_unit, mem_rows]
  constructor
  · intro h; exact h 0
  · intro h d
    match d with
    | ⟨0, _⟩ => exact h
    | ⟨1, _⟩ => exact ⟨Nat.zero_le _, by show (i 1).val < 0 + n; rw [Nat.zero_add]; exact (i 1).isLt⟩

/-- A rectangle of full rows inside one matrix of a stack covers the band of its rows there. -/
theorem rect_slab {p m n j a len : ℕ} {off : Fin 3 → ℕ} (h : off = ![j, a, 0])
    (inb : ∀ d, off d + (⟨3, ![1, len, n]⟩ : Shape).size d ≤ (⟨3, ![p, m, n]⟩ : Shape).size d) :
    (Rect.unit (s := ⟨3, ![p, m, n]⟩) off (⟨3, ![1, len, n]⟩ : Shape).size inb).set = slab j a len := by
  subst h
  ext i
  rw [Rect.mem_set_unit, mem_slab]
  constructor
  · intro h
    have h0 : j ≤ (i 0).val ∧ (i 0).val < j + 1 := h 0
    exact ⟨by omega, h 1⟩
  · intro h d
    match d with
    | ⟨0, _⟩ => exact (by show j ≤ (i 0).val ∧ (i 0).val < j + 1; omega)
    | ⟨1, _⟩ => exact h.2
    | ⟨2, _⟩ => exact ⟨Nat.zero_le _, by show (i 2).val < 0 + n; rw [Nat.zero_add]; exact (i 2).isLt⟩

/-- A band of `k` strips of `l` rows is the union of the strips. -/
theorem rows_biUnion {m n a l k : ℕ} (hl : 0 < l) :
    (rows a (k * l) : Finset (⟨2, ![m, n]⟩ : Shape).Idx) = Finset.univ.biUnion fun h : Fin k => rows (a + l * h.val) l := by
  ext i
  simp only [Finset.mem_biUnion, Finset.mem_univ, true_and, mem_rows]
  constructor
  · rintro ⟨h1, h2⟩
    have hlt : ((i 0).val - a) / l < k := Nat.div_lt_of_lt_mul (by rw [Nat.mul_comm]; omega)
    refine ⟨⟨((i 0).val - a) / l, hlt⟩, ?_⟩
    have := Nat.div_add_mod ((i 0).val - a) l
    have := Nat.mod_lt ((i 0).val - a) hl
    dsimp only
    omega
  · rintro ⟨h, h1, h2⟩
    have hh : l * h.val + l ≤ k * l := by
      have := Nat.mul_le_mul_left l (Nat.succ_le_of_lt h.isLt)
      rw [Nat.mul_succ, Nat.mul_comm l k] at this; exact this
    omega

theorem rows_disjoint {m n a l k : ℕ} (h h' : Fin k) (hne : h ≠ h') :
    Disjoint (rows (a + l * h.val) l : Finset (⟨2, ![m, n]⟩ : Shape).Idx) (rows (a + l * h'.val) l) := by
  rw [Finset.disjoint_left]
  intro i hi hi'
  rw [mem_rows] at hi hi'
  refine hne (Fin.ext ?_)
  rcases Nat.lt_trichotomy h.val h'.val with hh | hh | hh
  · have := Nat.mul_le_mul_left l (Nat.succ_le_of_lt hh); rw [Nat.mul_succ] at this; omega
  · exact hh
  · have := Nat.mul_le_mul_left l (Nat.succ_le_of_lt hh); rw [Nat.mul_succ] at this; omega

/-- A band of `k` strips inside one matrix of a stack is the union of the strips. -/
theorem slab_biUnion {p m n j a l k : ℕ} (hl : 0 < l) :
    (slab j a (k * l) : Finset (⟨3, ![p, m, n]⟩ : Shape).Idx) = Finset.univ.biUnion fun h : Fin k => slab j (a + l * h.val) l := by
  ext i
  simp only [Finset.mem_biUnion, Finset.mem_univ, true_and, mem_slab]
  constructor
  · rintro ⟨h0, h1, h2⟩
    have hlt : ((i 1).val - a) / l < k := Nat.div_lt_of_lt_mul (by rw [Nat.mul_comm]; omega)
    refine ⟨⟨((i 1).val - a) / l, hlt⟩, h0, ?_⟩
    have := Nat.div_add_mod ((i 1).val - a) l
    have := Nat.mod_lt ((i 1).val - a) hl
    dsimp only
    omega
  · rintro ⟨h, h0, h1, h2⟩
    have hh : l * h.val + l ≤ k * l := by
      have := Nat.mul_le_mul_left l (Nat.succ_le_of_lt h.isLt)
      rw [Nat.mul_succ, Nat.mul_comm l k] at this; exact this
    omega

theorem slab_disjoint {p m n j a l k : ℕ} (h h' : Fin k) (hne : h ≠ h') :
    Disjoint (slab j (a + l * h.val) l : Finset (⟨3, ![p, m, n]⟩ : Shape).Idx) (slab j (a + l * h'.val) l) := by
  rw [Finset.disjoint_left]
  intro i hi hi'
  rw [mem_slab] at hi hi'
  refine hne (Fin.ext ?_)
  rcases Nat.lt_trichotomy h.val h'.val with hh | hh | hh
  · have := Nat.mul_le_mul_left l (Nat.succ_le_of_lt hh); rw [Nat.mul_succ] at this; omega
  · exact hh
  · have := Nat.mul_le_mul_left l (Nat.succ_le_of_lt hh); rw [Nat.mul_succ] at this; omega

/-- All rows of a matrix. -/
theorem rows_univ {m n : ℕ} : (rows 0 m : Finset (⟨2, ![m, n]⟩ : Shape).Idx) = Finset.univ := by
  ext i; simp only [mem_rows, Finset.mem_univ, iff_true]; exact ⟨Nat.zero_le _, by rw [Nat.zero_add]; exact (i 0).isLt⟩

/-- A stack is the union of its matrices, -/
theorem slab_univ {p m n : ℕ} :
    (Finset.univ : Finset (⟨3, ![p, m, n]⟩ : Shape).Idx) = Finset.univ.biUnion fun j : Fin p => slab j.val 0 m := by
  ext i
  simp only [Finset.mem_biUnion, Finset.mem_univ, true_and, mem_slab, true_iff]
  exact ⟨i 0, rfl, Nat.zero_le _, by rw [Nat.zero_add]; exact (i 1).isLt⟩

/-- which are apart. -/
theorem slab_apart {p m n : ℕ} (j j' : Fin p) (hne : j ≠ j') :
    Disjoint (slab j.val 0 m : Finset (⟨3, ![p, m, n]⟩ : Shape).Idx) (slab j'.val 0 m) := by
  rw [Finset.disjoint_left]
  intro i hi hi'
  rw [mem_slab] at hi hi'
  exact hne (Fin.ext (hi.1.symm.trans hi'.1))

/-! ## Reading and writing through a view -/

section Read

variable {Val : EltTy → Type}

/-- Reading a whole buffer through a rectangle: the buffer's value at the index moved by the rectangle's offset. -/
theorem read_moved {κ : Kind} (b : Ref sig κ) (off size : Fin b.ty.shape.rank → ℕ) (inb) (f : b.ty.Contents Val)
    (j : (Rect.unit off size inb).shape.Idx) (k : b.ty.shape.Idx) (hk : ∀ a, (k a).val = off a + (j a).val) :
    ((View.whole b).slice (Rect.unit off size inb)).read Val f j = f k := by
  have h : ((View.whole b).slice (Rect.unit off size inb)).emb j = k :=
    funext fun a => Fin.ext ((ValueKit.view_emb_slice_whole_unit_val b off size inb j a).trans (hk a).symm)
  rw [View.read_apply, h]; rfl

/-- A write through a view of what the view reads of `g` leaves `g` on the view's elements. -/
theorem write_of_read {κ : Kind} {sp : Space} {s : Shape} {e : EltTy} (v : View sig κ sp s e) (fd g : v.ty.Contents Val)
    (w : s.Idx → Val e) (h : v.read Val g = w) : ∀ i ∈ v.set, v.write Val fd w Finset.univ i = g i := by
  intro i hi
  obtain ⟨x, -, rfl⟩ := Finset.mem_map.mp hi
  rw [View.write_emb_of_mem (h := Finset.mem_univ x), ← h, View.read_apply, cast_cast, cast_eq]

end Read

end Cert.Gather

end
-- ==== Proof.Contents.lean ====
/-
# What the buffers hold

From the memory at the launch: the column block of `x` each device is handed, the gather buffer once every slot has
landed, the four row blocks of `w` in the order in which the kernel uses them, and the accumulator after each of its
stores, as the printed payloads give them.
-/
module

public import proofs.«01_k».proof.Proof.Geometry

@[expose] public section

noncomputable section

namespace Cert.Gather

open Cert.KernelIdeal Cert.KernelIdeal.Gen

open Idealize.ShloMosaic
open Idealize.ShloMosaic.TcCoe
open Idealize.SL Idealize.SL.RA Idealize.SL.BI
open Idealize.ShloMosaic.ValueIdx

variable {F : FTy → Type} [FloatOps F]

variable (m : (ℓ : Loc nD τ sig) → Buf (Elt F) ℓ) (ρ : Dev nD → PrngReg)

/-- The memory at launch: arbitrary contents, all counters at zero, arbitrary generator registers. -/
def s₀ : MemSt nD τ sig (Elt F) := ⟨m, fun _ => 0, ρ⟩

/-! ## The inputs -/

/-- Device `c`'s column block of `x`, as the pipeline stages it. -/
def xIn (c : Dev nD) : (cc0_stg0_0 : Ref sig .tc).ty.Contents (Elt F) :=
  (win0_0.blk (0 : Fin 1)).view.read (Elt F) ((s₀ m ρ).mem ((c : Thread nD τ).loc main_arg0))

/-- Device `c`'s copy of `w`. -/
def wIn (c : Dev nD) : (main_arg1 : Ref sig .tc).ty.Contents (Elt F) := m ((c : Thread nD τ).loc main_arg1)

/-! ## The gathered blocks -/

theorem row_lt (j : Dev nD) (r : Fin 512) : 512 * j.val + r.val < 2048 := by
  have h1 := j.isLt; have h2 := r.isLt; simp only [nD] at h1; omega

theorem row_lt' (h : Fin 4) (r : Fin 128) : 128 * h.val + r.val < 512 := by have := h.isLt; have := r.isLt; omega

/-- Row `r` of row block `j`, among all 2048 rows. -/
abbrev row (j : Dev nD) (r : Fin 512) : Fin 2048 := ⟨512 * j.val + r.val, row_lt j r⟩
/-- Row `r` of quarter `h`, among the 512 rows of a block. -/
abbrev row' (h : Fin 4) (r : Fin 128) : Fin 512 := ⟨128 * h.val + r.val, row_lt' h r⟩

/-- The gather buffer of device `c`: slot `j` holds row block `c` of device `j`'s column block. -/
def gAll (c : Dev nD) : (cc0_scratch0 : Ref sig .tc).ty.Contents (Elt F) :=
  fun i : S4x512x512.Idx => (xIn m ρ (i 0) : S2048x512.Idx → Elt F .bf16) (ix2 (row c (i 1)) (i 2))

/-- The row block of `w` the kernel copies to slot `k`: its own, then those of the devices three, one and two places on. -/
def ord (c : Dev nD) : Fin 4 → Dev nD
  | ⟨0, _⟩ => c
  | ⟨1, _⟩ => up 3 c
  | ⟨2, _⟩ => up 1 c
  | ⟨_ + 3, _⟩ => up 2 c

/-- The copied row blocks of `w`. -/
def vAll (c : Dev nD) : (cc0_scratch1 : Ref sig .tc).ty.Contents (Elt F) :=
  fun i : S4x512x2048.Idx => (wIn m c : S2048x2048.Idx → Elt F .bf16) (ix2 (row (ord c (i 0)) (i 1)) (i 2))

/-! ## The values loaded -/

/-- Row block `c` of the device's own column block. -/
def xBlk (c : Dev nD) : Vec F S512x512 .bf16 := fun i => (xIn m ρ c : S2048x512.Idx → Elt F .bf16) (ix2 (row c (i 0)) (i 1))
/-- Slot `j` of the gather buffer, -/
def gBlk (c j : Dev nD) : Vec F S1x512x512 .bf16 := fun i => (gAll m ρ c : S4x512x512.Idx → Elt F .bf16) (ix3 j (i 1) (i 2))
/-- and quarter `h` of the slot of the opposite device. -/
def gQuarter (c : Dev nD) (h : Fin 4) : Vec F S1x128x512 .bf16 :=
  fun i => (gAll m ρ c : S4x512x512.Idx → Elt F .bf16) (ix3 (up 2 c) (row' h (i 1)) (i 2))
/-- The copied row block `k` of `w`. -/
def vBlk (c : Dev nD) (k : Fin 4) : Vec F S1x512x2048 .bf16 :=
  fun i => (vAll m c : S4x512x2048.Idx → Elt F .bf16) (ix3 k (i 1) (i 2))

/-! ## The accumulator -/

/-- After the product of the device's own block, -/
def acc1 (c : Dev nD) : FVec F S512x2048 .f32 := k0_pay1 (xBlk m ρ c) (vBlk m c 0)
/-- after that of the block from three places on, -/
def acc2 (c : Dev nD) : FVec F S512x2048 .f32 := k0_pay2 (acc1 m ρ c) (gBlk m ρ c (up 3 c)) (vBlk m c 1)
/-- after that of the block from the next device. -/
def acc3 (c : Dev nD) : FVec F S512x2048 .f32 := k0_pay4 (acc2 m ρ c) (k0_pay3 (gBlk m ρ c (up 1 c))) (vBlk m c 2)
/-- Quarter `h` of that. -/
def accQuarter (c : Dev nD) (h : Fin 4) : Vec F S128x2048 .f32 := fun i => acc3 m ρ c (ix2 (row' h (i 0)) (i 1))
/-- Quarter `h` of the result: the opposite device's quarter added. -/
def resQuarter (c : Dev nD) (h : Fin 4) : FVec F S128x2048 .f32 :=
  k0_pay7 (accQuarter m ρ c h) (gQuarter m ρ c h) (vBlk m c 3)
/-- The result of device `c`, by quarters. -/
def res (c : Dev nD) : (main_v1 : Ref sig .tc).ty.Contents (Elt F) :=
  fun i : S512x2048.Idx => resQuarter m ρ c ⟨(i 0).val / 128, by have h : (i 0).val < 512 := (i 0).isLt; omega⟩
    (ix2 (⟨(i 0).val % 128, Nat.mod_lt _ (by decide)⟩ : Fin 128) (i 1))

/-- The result at row `r` of quarter `h` is the quarter's there. -/
theorem res_at (c : Dev nD) (h : Fin 4) (r : Fin 128) (n : Fin 2048) :
    (res m ρ c : S512x2048.Idx → Elt F .f32) (ix2 (row' h r) n) = resQuarter m ρ c h (ix2 r n) := by
  have h1 : (⟨(128 * h.val + r.val) / 128, by have := h.isLt; have := r.isLt; omega⟩ : Fin 4) = h := Fin.ext (by
    show (128 * h.val + r.val) / 128 = h.val; have := r.isLt; omega)
  have h2 : (⟨(128 * h.val + r.val) % 128, Nat.mod_lt _ (by decide)⟩ : Fin 128) = r := Fin.ext (by
    show (128 * h.val + r.val) % 128 = r.val; have := r.isLt; omega)
  show resQuarter m ρ c ⟨(128 * h.val + r.val) / 128, _⟩ (ix2 (⟨(128 * h.val + r.val) % 128, _⟩ : Fin 128) n) = _
  rw [h1, h2]

/-! ## Loads through the printed rectangles -/

section Loads

variable (c : Dev nD)

omit [FloatOps F] in
/-- A load of 512 rows of the staged block. -/
theorem load_x {off : Fin 2 → ℕ} (ho : off = ![512 * c.val, 0]) (inb) :
    (xM.access (Rect.unit (s := S2048x512) off S512x512.size inb)).read (Elt F) (xIn m ρ c) = xBlk m ρ c := by
  subst ho
  funext i
  refine read_moved cc0_stg0_0 _ _ _ _ i (ix2 (row c (i 0)) (i 1)) fun a => ?_
  match a with
  | ⟨0, _⟩ => rfl
  | ⟨1, _⟩ => exact (Nat.zero_add _).symm

omit [FloatOps F] in
/-- A load of a slot of the gather buffer, -/
theorem load_g (j : Dev nD) {off : Fin 3 → ℕ} (ho : off = ![j.val, 0, 0]) (inb) :
    (gM.access (Rect.unit (s := S4x512x512) off S1x512x512.size inb)).read (Elt F) (gAll m ρ c) = gBlk m ρ c j := by
  subst ho
  funext i
  refine read_moved cc0_scratch0 _ _ _ _ i (ix3 j (i 1) (i 2)) fun a => ?_
  have h0 : (i 0).val < 1 := (i 0).isLt
  match a with
  | ⟨0, _⟩ => show j.val = j.val + (i 0).val; omega
  | ⟨1, _⟩ => exact (Nat.zero_add _).symm
  | ⟨2, _⟩ => exact (Nat.zero_add _).symm

omit [FloatOps F] in
/-- and of a quarter of the opposite device's slot. -/
theorem load_gq (h : Fin 4) {off : Fin 3 → ℕ} (ho : off = ![(up 2 c).val, 128 * h.val, 0]) (inb) :
    (gM.access (Rect.unit (s := S4x512x512) off S1x128x512.size inb)).read (Elt F) (gAll m ρ c) = gQuarter m ρ c h := by
  subst ho
  funext i
  refine read_moved cc0_scratch0 _ _ _ _ i (ix3 (up 2 c) (row' h (i 1)) (i 2)) fun a => ?_
  have h0 : (i 0).val < 1 := (i 0).isLt
  match a with
  | ⟨0, _⟩ => show (up 2 c).val = (up 2 c).val + (i 0).val; omega
  | ⟨1, _⟩ => rfl
  | ⟨2, _⟩ => exact (Nat.zero_add _).symm

omit [FloatOps F] in
/-- A load of a copied row block of `w`. -/
theorem load_v (k : Fin 4) {off : Fin 3 → ℕ} (ho : off = ![k.val, 0, 0]) (inb) :
    (vM.access (Rect.unit (s := S4x512x2048) off S1x512x2048.size inb)).read (Elt F) (vAll m c) = vBlk m c k := by
  subst ho
  funext i
  refine read_moved cc0_scratch1 _ _ _ _ i (ix3 k (i 1) (i 2)) fun a => ?_
  have h0 : (i 0).val < 1 := (i 0).isLt
  match a with
  | ⟨0, _⟩ => show k.val = k.val + (i 0).val; omega
  | ⟨1, _⟩ => exact (Nat.zero_add _).symm
  | ⟨2, _⟩ => exact (Nat.zero_add _).symm

/-- A load of a quarter of the accumulator. -/
theorem load_a (h : Fin 4) {off : Fin 2 → ℕ} (ho : off = ![128 * h.val, 0]) (inb) :
    (aM.access (Rect.unit (s := S512x2048) off S128x2048.size inb)).read (Elt F) (acc3 m ρ c) = accQuarter m ρ c h := by
  subst ho
  funext i
  refine read_moved cc0_scratch2 _ _ _ _ i (ix2 (row' h (i 0)) (i 1)) fun a => ?_
  match a with
  | ⟨0, _⟩ => rfl
  | ⟨1, _⟩ => exact (Nat.zero_add _).symm

/-- Read through a quarter's rectangle, the result is the quarter's: in the accumulator, -/
theorem read_res_a (h : Fin 4) {off : Fin 2 → ℕ} (ho : off = ![128 * h.val, 0]) (inb) :
    (aM.access (Rect.unit (s := S512x2048) off S128x2048.size inb)).read (Elt F) (res m ρ c) = resQuarter m ρ c h := by
  subst ho
  funext i
  refine (read_moved cc0_scratch2 _ _ _ _ i (ix2 (row' h (i 0)) (i 1)) fun a => ?_).trans ?_
  · match a with
    | ⟨0, _⟩ => rfl
    | ⟨1, _⟩ => exact (Nat.zero_add _).symm
  · exact (res_at m ρ c h (i 0) (i 1)).trans (congrArg _ (eq_ix2 i).symm)

/-- and in the result's buffer. -/
theorem read_res_o (h : Fin 4) {off : Fin 2 → ℕ} (ho : off = ![128 * h.val, 0]) (inb) :
    (oM.access (Rect.unit (s := S512x2048) off S128x2048.size inb)).read (Elt F) (res m ρ c) = resQuarter m ρ c h := by
  subst ho
  funext i
  refine (read_moved main_v1 _ _ _ _ i (ix2 (row' h (i 0)) (i 1)) fun a => ?_).trans ?_
  · match a with
    | ⟨0, _⟩ => rfl
    | ⟨1, _⟩ => exact (Nat.zero_add _).symm
  · exact (res_at m ρ c h (i 0) (i 1)).trans (congrArg _ (eq_ix2 i).symm)

end Loads

/-! ## What a transfer lands

Source and destination are read alike: the piece sent to device `n` is, in slot `c` of `n`'s gather buffer, that
piece of what the buffer is to hold. -/

section Landings

variable (c : Dev nD)

omit [FloatOps F] in
/-- A piece of `len` rows from row `b` of the row block `n`, sent by device `c`. -/
theorem landed_g (n : Dev nD) (b len : ℕ) (hb : b + len ≤ 512) {offx : Fin 2 → ℕ} (hx : offx = ![512 * n.val + b, 0]) (inbx)
    {offg : Fin 3 → ℕ} (hg : offg = ![c.val, b, 0]) (inbg) (hrx) (hrg) (hsq) :
    ((gM.slice (Rect.unit (s := S4x512x512) offg (⟨3, ![1, len, 512]⟩ : Shape).size inbg) hrg).squeeze ⟨2, ![len, 512]⟩ hsq).view.read
        (Elt F) (gAll m ρ n)
      = (xM.slice (Rect.unit (s := S2048x512) offx (⟨2, ![len, 512]⟩ : Shape).size inbx) hrx).view.read (Elt F) (xIn m ρ c) := by
  subst hx hg
  funext i
  rw [eq_ix2 (n0 := len) (n1 := 512) i]
  have hi : (i 0).val < len := (i 0).isLt
  have hrow : b + (i 0).val < 512 := by omega
  have hc : (⟨3, ![1, len, 512]⟩ : Shape).ShapeCasts ⟨2, ![len, 512]⟩ := by
    show (⟨2, ![len, 512]⟩ : Shape).numel = (⟨3, ![1, len, 512]⟩ : Shape).numel
    simp [Shape.numel, Fin.prod_univ_succ]
  refine (congrFun (Memref.read_squeeze_slice gM _ _ _ hc _) _).trans ?_
  refine (shapeCast_1ab_ab_apply _ hc (i 0) (i 1)).trans ?_
  rw [View.readAt_rect]
  refine (read_moved (Val := Elt F) cc0_scratch0 ![c.val, b, 0] (⟨3, ![1, len, 512]⟩ : Shape).size inbg (gAll m ρ n) (ix3 0 (i 0) (i 1)) (ix3 c (⟨b + (i 0).val, hrow⟩ : Fin 512) (i 1)) fun a => ?_).trans ?_
  · match a with
    | ⟨0, _⟩ => rfl
    | ⟨1, _⟩ => rfl
    | ⟨2, _⟩ => exact (Nat.zero_add _).symm
  · refine Eq.trans ?_ (read_moved cc0_stg0_0 _ _ _ _ _ (ix2 (row n ⟨b + (i 0).val, hrow⟩) (i 1)) fun a => ?_).symm
    · rfl
    · match a with
      | ⟨0, _⟩ => exact (Nat.add_assoc _ _ _).symm
      | ⟨1, _⟩ => exact (Nat.zero_add _).symm

omit [FloatOps F] in
/-- A row block of `w` copied to its slot. -/
theorem landed_v (k : Fin 4) {offw : Fin 2 → ℕ} (hw : offw = ![512 * (ord c k).val, 0]) (inbw)
    {offv : Fin 3 → ℕ} (hv : offv = ![k.val, 0, 0]) (inbv) (hrw) (hrv) (hsq) :
    ((vM.slice (Rect.unit (s := S4x512x2048) offv S1x512x2048.size inbv) hrv).squeeze S512x2048 hsq).view.read
        (Elt F) (vAll m c)
      = (wM.slice (Rect.unit (s := S2048x2048) offw S512x2048.size inbw) hrw).view.read (Elt F) (wIn m c) := by
  subst hw hv
  funext i
  rw [eq_ix2 (n0 := 512) (n1 := 2048) i]
  have hc := shapeCasts_S1x512x2048_S512x2048
  refine (congrFun (Memref.read_squeeze_slice vM _ _ _ hc _) _).trans ?_
  refine (shapeCast_1ab_ab_apply _ hc (i 0) (i 1)).trans ?_
  rw [View.readAt_rect]
  refine (read_moved (Val := Elt F) cc0_scratch1 ![k.val, 0, 0] S1x512x2048.size inbv (vAll m c) (ix3 0 (i 0) (i 1)) (ix3 k (i 0) (i 1)) fun a => ?_).trans ?_
  · match a with
    | ⟨0, _⟩ => rfl
    | ⟨1, _⟩ => exact (Nat.zero_add _).symm
    | ⟨2, _⟩ => exact (Nat.zero_add _).symm
  · refine Eq.trans ?_ (read_moved main_arg1 _ _ _ _ _ (ix2 (row (ord c k) (i 0)) (i 1)) fun a => ?_).symm
    · rfl
    · match a with
      | ⟨0, _⟩ => rfl
      | ⟨1, _⟩ => exact (Nat.zero_add _).symm

end Landings

end Cert.Gather

end
-- ==== Proof.Schedule.lean ====
/-
# The schedule of the semaphores

Every semaphore of the kernel is used for one round. A device's barrier semaphore is raised once by each of the three
others; the raise of device `p` hands over `p`'s gather slot for the barrier's owner. Every DMA semaphore is raised by one
transfer: a send semaphore gives back the rows of `x` that were read, a receive semaphore hands over the gathered slot (or
quarter of a slot) with its contents, a copy-in semaphore a row block of `w` and its copy, a copy-out semaphore a quarter of
the accumulator and of the result. Of the four receive semaphores a device uses two: no transfer raises its own slot's, nor
the opposite device's (which comes in quarters, on four semaphores of their own).
-/
module

public import proofs.«01_k».proof.Proof.Contents

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's rounds and the kernel's -/

/-- A duty is named by the device that pays it. -/
abbrev D : Type := Dev nD
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The amounts -/

/-- What a transfer of `len` rows of 512 columns credits, -/
def crX (len : ℕ) : ℕ := sig.dmaCredit .tc (Kind.tc.table .vmem) 1 ⟨2, ![len, 512]⟩ .bf16
/-- a row block of `w`, -/
def crW : ℕ := sig.dmaCredit .tc (Kind.tc.table .vmem) 2 S512x2048 .bf16
/-- a quarter of the result. -/
def crO : ℕ := sig.dmaCredit .tc (Kind.tc.table .hbm) 2 S128x2048 .f32

theorem credit_g (len : ℕ) (off) (inb) (hr) (hq) :
    ((gM.slice (Rect.unit (s := S4x512x512) off (⟨3, ![1, len, 512]⟩ : Shape).size inb) hr).squeeze ⟨2, ![len, 512]⟩ hq).view.dmaCredit = crX len :=
  View.dmaCredit_closed _ ⟨2, ![len, 512]⟩ rfl 1 rfl _ rfl
theorem credit_x (len : ℕ) (off) (inb) (hr) :
    (xM.slice (Rect.unit (s := S2048x512) off (⟨2, ![len, 512]⟩ : Shape).size inb) hr).view.dmaCredit = crX len :=
  View.dmaCredit_closed _ ⟨2, ![len, 512]⟩ rfl 0 rfl _ rfl
theorem credit_v (off) (inb) (hr) (hq) :
    ((vM.slice (Rect.unit (s := S4x512x2048) off S1x512x2048.size inb) hr).squeeze S512x2048 hq).view.dmaCredit = crW :=
  View.dmaCredit_closed _ S512x2048 rfl 2 rfl _ rfl
theorem credit_o (off) (inb) (hr) :
    (oM.slice (Rect.unit (s := S512x2048) off S128x2048.size inb) hr).view.dmaCredit = crO :=
  View.dmaCredit_closed _ S128x2048 rfl 2 rfl _ rfl

/-- The amount of DMA semaphore `k`. -/
def amt (k : DmaSem sig) : ℕ :=
  if k.val < 3 then crX 512 else if k.val < 7 then crX 128 else if k.val < 11 then crX 512 else if k.val < 15 then crX 128
  else if k.val < 19 then crW else crO

theorem amt_pos (k : DmaSem sig) : 0 < amt k := by
  have h1 : 0 < crX 512 := sig.dmaCredit_pos _ _ _ _ _ (by decide)
  have h2 : 0 < crX 128 := sig.dmaCredit_pos _ _ _ _ _ (by decide)
  have h3 : 0 < crW := sig.dmaCredit_pos _ _ _ _ _ (by decide)
  have h4 : 0 < crO := sig.dmaCredit_pos _ _ _ _ _ (by decide)
  unfold amt
  (repeat' split) <;> assumption

theorem amt_recv (j : Dev nD) : amt (recvS j) = crX 512 := by
  revert j; intro j
  match j with
  | ⟨0, _⟩ => rfl
  | ⟨1, _⟩ => rfl
  | ⟨2, _⟩ => rfl
  | ⟨3, _⟩ => rfl

/-! ## The payloads -/

/-- Rows of the staged block of `x` on device `c`. -/
def xP (c : Dev nD) (a len : ℕ) : sProp 𝕄 := ((c : Thread nD τ).loc cc0_stg0_0) ↦[rows (m := 2048) (n := 512) a len]{fullShare} xIn m ρ c
/-- Rows of a slot of the gather buffer, filled. -/
def gP (c j : Dev nD) (a len : ℕ) : sProp 𝕄 :=
  ((c : Thread nD τ).loc cc0_scratch0) ↦[slab (p := 4) (m := 512) (n := 512) j.val a len]{fullShare} gAll m ρ c
/-- Rows of a slot of the gather buffer, at some contents. -/
def gAny (c j : Dev nD) (a len : ℕ) : sProp 𝕄 :=
  iprop(∃ f : Buf (Elt F) ((c : Thread nD τ).loc cc0_scratch0),
    ((c : Thread nD τ).loc cc0_scratch0) ↦[slab (p := 4) (m := 512) (n := 512) j.val a len]{fullShare} f)
/-- The row block of `w` for slot `k`, -/
def wP (c : Dev nD) (k : Fin 4) : sProp 𝕄 :=
  ((c : Thread nD τ).loc main_arg1) ↦[rows (m := 2048) (n := 2048) (512 * (ord c k).val) 512]{fullShare} wIn m c
/-- its copy, -/
def vP (c : Dev nD) (k : Fin 4) : sProp 𝕄 :=
  ((c : Thread nD τ).loc cc0_scratch1) ↦[slab (p := 4) (m := 512) (n := 2048) k.val 0 512]{fullShare} vAll m c
/-- and the copy's place at some contents. -/
def vAny (c : Dev nD) (k : Fin 4) : sProp 𝕄 :=
  iprop(∃ f : Buf (Elt F) ((c : Thread nD τ).loc cc0_scratch1),
    ((c : Thread nD τ).loc cc0_scratch1) ↦[slab (p := 4) (m := 512) (n := 2048) k.val 0 512]{fullShare} f)
/-- Quarter `h` of the accumulator, holding the result, -/
def aP (c : Dev nD) (h : Fin 4) : sProp 𝕄 :=
  ((c : Thread nD τ).loc cc0_scratch2) ↦[rows (m := 512) (n := 2048) (128 * h.val) 128]{fullShare} (res m ρ c : Buf (Elt F) ((c : Thread nD τ).loc cc0_scratch2))
/-- and of the result's buffer. -/
def oP (c : Dev nD) (h : Fin 4) : sProp 𝕄 :=
  ((c : Thread nD τ).loc main_v1) ↦[rows (m := 512) (n := 2048) (128 * h.val) 128]{fullShare} res m ρ c

omit [FloatOps F] in
instance xP_storable (c : Dev nD) (a len : ℕ) : BI.Storable (upEmb : UEmb _ 𝕄) (xP (F := F) m ρ c a len) := by unfold xP; infer_instance
omit [FloatOps F] in
instance gP_storable (c j : Dev nD) (a len : ℕ) : BI.Storable (upEmb : UEmb _ 𝕄) (gP (F := F) m ρ c j a len) := by unfold gP; infer_instance
omit [FloatOps F] in
instance gAny_storable (c j : Dev nD) (a len : ℕ) : BI.Storable (upEmb : UEmb _ 𝕄) (gAny (F := F) c j a len) := by unfold gAny; infer_instance
omit [FloatOps F] in
instance wP_storable (c : Dev nD) (k : Fin 4) : BI.Storable (upEmb : UEmb _ 𝕄) (wP (F := F) m c k) := by unfold wP; infer_instance
omit [FloatOps F] in
instance vP_storable (c : Dev nD) (k : Fin 4) : BI.Storable (upEmb : UEmb _ 𝕄) (vP (F := F) m c k) := by unfold vP; infer_instance
instance aP_storable (c : Dev nD) (h : Fin 4) : BI.Storable (upEmb : UEmb _ 𝕄) (aP (F := F) m ρ c h) := by unfold aP; infer_instance
instance oP_storable (c : Dev nD) (h : Fin 4) : BI.Storable (upEmb : UEmb _ 𝕄) (oP (F := F) m ρ c h) := by unfold oP; infer_instance

/-- What DMA semaphore `k` of device `c` hands over. -/
def payD (c : Dev nD) : ℕ → sProp 𝕄
  | 1 => xP m ρ c (512 * (up 1 c).val) 512
  | 2 => xP m ρ c (512 * (up 3 c).val) 512
  | 3 => xP m ρ c (512 * (up 2 c).val + 128 * 0) 128
  | 4 => xP m ρ c (512 * (up 2 c).val + 128 * 1) 128
  | 5 => xP m ρ c (512 * (up 2 c).val + 128 * 2) 128
  | 6 => xP m ρ c (512 * (up 2 c).val + 128 * 3) 128
  | 7 => gP m ρ c 0 0 512
  | 8 => gP m ρ c 1 0 512
  | 9 => gP m ρ c 2 0 512
  | 10 => gP m ρ c 3 0 512
  | 11 => gP m ρ c (up 2 c) (128 * 0) 128
  | 12 => gP m ρ c (up 2 c) (128 * 1) 128
  | 13 => gP m ρ c (up 2 c) (128 * 2) 128
  | 14 => gP m ρ c (up 2 c) (128 * 3) 128
  | 15 => iprop(vP m c 0 ∗ wP m c 0)
  | 16 => iprop(vP m c 1 ∗ wP m c 1)
  | 17 => iprop(vP m c 2 ∗ wP m c 2)
  | 18 => iprop(vP m c 3 ∗ wP m c 3)
  | 19 => iprop(oP m ρ c 0 ∗ aP m ρ c 0)
  | 20 => iprop(oP m ρ c 1 ∗ aP m ρ c 1)
  | 21 => iprop(oP m ρ c 2 ∗ aP m ρ c 2)
  | 22 => iprop(oP m ρ c 3 ∗ aP m ρ c 3)
  | _ => iprop(emp)

theorem payD_recv (c j : Dev nD) : payD m ρ c (recvS j).val = gP m ρ c j 0 512 := by
  match j with
  | ⟨0, _⟩ => rfl
  | ⟨1, _⟩ => rfl
  | ⟨2, _⟩ => rfl
  | ⟨3, _⟩ => rfl

/-- What device `p`'s raise of `c`'s barrier semaphore hands over: `p`'s slot `c`. -/
def barPay (c p : Dev nD) : sProp 𝕄 := gAny p c 0 512

instance payD_storable (c : Dev nD) (k : ℕ) : BI.Storable (upEmb : UEmb _ 𝕄) (payD (F := F) m ρ c k) := by
  unfold payD; split <;> infer_instance
omit [FloatOps F] in
instance barPay_storable (c p : Dev nD) : BI.Storable (upEmb : UEmb _ 𝕄) (barPay (F := F) c p) := by unfold barPay; infer_instance

/-! ## The schedule -/

/-- The DMA semaphores of device `c` a transfer raises: not the staging one, not the receive semaphores of its own slot and
    of the opposite device's. -/
def Used (c : Dev nD) (k : DmaSem sig) : Prop := k.val ≠ 0 ∧ k.val ≠ 7 + c.val ∧ k.val ≠ 7 + (up 2 c).val
instance (c : Dev nD) (k : DmaSem sig) : Decidable (Used c k) := by unfold Used; infer_instance

/-- The duties of a semaphore of device `c`, all of round 0. -/
def dutiesOf (c : Dev nD) : SemLoc sig → Finset D
  | .reg _ => Finset.univ.erase c
  | .dma k => if Used c k then {0} else ∅

def amtOf : SemLoc sig → ℕ
  | .reg _ => 1
  | .dma k => amt k

def payOf (c : Dev nD) (d : D) : SemLoc sig → sProp 𝕄
  | .reg _ => barPay c d
  | .dma k => payD m ρ c k.val

/-- One round on every semaphore. -/
def sched : Rounds.Schedule (GSem nD τ sig) D 𝕄 where
  duties g r := if r = 0 ∧ g.1.2 = .tc then dutiesOf g.1.1 g.2 else ∅
  unitless _ := False
  amount g _ _ := amtOf g.2
  payload g _ d := payOf m ρ g.1.1 d g.2
  amount_pos g _ _ _ := by
    match g with
    | (_, .reg _) => exact Nat.one_pos
    | (_, .dma k) => exact amt_pos k

instance payOf_storable (c : Dev nD) (d : D) (sm : SemLoc sig) : BI.Storable (upEmb : UEmb _ 𝕄) (payOf (F := F) m ρ c d sm) := by
  unfold payOf; split <;> infer_instance
instance sched_payload_storable (g : GSem nD τ sig) (r : ℕ) (d : D) :
    BI.Storable (upEmb : UEmb _ 𝕄) ((sched (F := F) m ρ).payload g r d) := payOf_storable m ρ g.1.1 d g.2

section Sched
variable (c : Dev nD)

theorem duties_zero (sm : SemLoc sig) : (sched m ρ).duties ((c : Thread nD τ), sm) 0 = dutiesOf c sm := by
  dsimp only [sched]; exact if_pos ⟨rfl, rfl⟩
theorem duties_bar : (sched m ρ).duties (bar c) 0 = Finset.univ.erase c := duties_zero m ρ c _
theorem duties_dma {k : DmaSem sig} (hk : Used c k) : (sched m ρ).duties (dcell c k) 0 = {0} :=
  (duties_zero m ρ c _).trans (if_pos hk)
theorem duties_unused {k : DmaSem sig} (hk : ¬ Used c k) : ∀ r, (sched m ρ).duties (dcell c k) r = ∅ := fun r => by
  show (if r = 0 ∧ _ then (if Used c k then {0} else ∅) else ∅) = ∅
  rw [if_neg hk, ite_self]
theorem duties_later (g : GSem nD τ sig) : ∀ r, 1 ≤ r → (sched m ρ).duties g r = ∅ :=
  fun r hr => if_neg fun h => by omega

theorem mem_bar {p : Dev nD} (h : p ≠ c) : p ∈ (sched m ρ).duties (bar c) 0 := by
  rw [duties_bar]; exact Finset.mem_erase.mpr ⟨h, Finset.mem_univ p⟩
theorem mem_dma {k : DmaSem sig} (hk : Used c k) : (0 : D) ∈ (sched m ρ).duties (dcell c k) 0 := by
  rw [duties_dma m ρ c hk]; exact Finset.mem_singleton_self _

theorem expect_bar : (sched m ρ).expect (bar c) 0 = 3 := by
  unfold Schedule.expect Schedule.amountOf
  rw [duties_bar]
  show (Finset.univ.erase c).sum (fun _ => 1) = 3
  revert c; decide
theorem expect_dma {k : DmaSem sig} (hk : Used c k) : (sched m ρ).expect (dcell c k) 0 = amt k := by
  unfold Schedule.expect Schedule.amountOf; rw [duties_dma m ρ c hk, Finset.sum_singleton]; rfl

/-- What the barrier wait hands over: this device's slots on the three others. -/
theorem rest_bar : bigSep ((sched m ρ).duties (bar c) 0 \ ∅) (fun d => (sched m ρ).payload (bar c) 0 d)
    = iprop(barPay c (up 1 c) ∗ barPay c (up 2 c) ∗ barPay c (up 3 c)) := by
  rw [Finset.sdiff_empty, duties_bar,
    bigSep_eq_bigSepL_of_eq [up 1 c, up 2 c, up 3 c] (by revert c; decide) (by revert c; decide)]
  rfl
theorem rest_dma {k : DmaSem sig} (hk : Used c k) :
    bigSep ((sched m ρ).duties (dcell c k) 0 \ ∅) (fun d => (sched m ρ).payload (dcell c k) 0 d) = payD m ρ c k.val := by
  rw [Finset.sdiff_empty, duties_dma m ρ c hk, bigSep_singleton]; rfl

end Sched

/-! ## What is owed at the launch; the levels -/

/-- The DMA semaphore of quarter `h` from the opposite device. -/
def diagS (h : Fin 4) : DmaSem sig := ⟨11 + h.val, by have := h.isLt; show 11 + h.val < 23; omega⟩

/-- What device `c` owes, from its last transfer back to its first: the quarters to the opposite device, -/
def owe1 (c : Dev nD) : CellTallies nD τ sig Unit := tallyAt (dcell (up 2 c) 14) () (crX 128)
def owe2 (c : Dev nD) : CellTallies nD τ sig Unit := owe1 c + tallyAt (dcell (up 2 c) 13) () (crX 128)
def owe3 (c : Dev nD) : CellTallies nD τ sig Unit := owe2 c + tallyAt (dcell (up 2 c) 12) () (crX 128)
def owe4 (c : Dev nD) : CellTallies nD τ sig Unit := owe3 c + tallyAt (dcell (up 2 c) 11) () (crX 128)
/-- the blocks to its two neighbours, -/
def owe5 (c : Dev nD) : CellTallies nD τ sig Unit := owe4 c + tallyAt (dcell (up 3 c) (recvS c)) () (crX 512)
def owe6 (c : Dev nD) : CellTallies nD τ sig Unit := owe5 c + tallyAt (dcell (up 1 c) (recvS c)) () (crX 512)
/-- and the three raises of the barriers. -/
def owe7 (c : Dev nD) : CellTallies nD τ sig Unit := owe6 c + tallyAt (bar (up 3 c)) () 1
def owe8 (c : Dev nD) : CellTallies nD τ sig Unit := owe7 c + tallyAt (bar (up 2 c)) () 1
def owe9 (c : Dev nD) : CellTallies nD τ sig Unit := owe8 c + tallyAt (bar (up 1 c)) () 1

def L (g : GSem nD τ sig) : Finset Unit := if g.1.2 = .tc then {()} else ∅
/-- The barrier's cells at 1, the receive cells (numbers 7 to 14) at 2, all others at 0. -/
def lv (g : GSem nD τ sig) (_ : Unit) : ℕ :=
  match g.2 with
  | .reg _ => 1
  | .dma k => if 7 ≤ k.val ∧ k.val < 15 then 2 else 0

theorem L_of_ne (g : GSem nD τ sig) (h : g.1.2 ≠ .tc) : L g = ∅ := if_neg h
theorem L_tc (c : Dev nD) (sm : SemLoc sig) : L ((c : Thread nD τ), sm) = {()} := if_pos rfl

/-- After the raises only receive cells are owed, -/
theorem owe6_pos {c : Dev nD} {g : GSem nD τ sig} {u : Unit} (h : 0 < owe6 c g u) :
    g.1.2 = .tc ∧ ∃ k : DmaSem sig, g.2 = .dma k ∧ 7 ≤ k.val ∧ k.val < 15 := by
  have hr : 7 ≤ (recvS c).val ∧ (recvS c).val < 15 := by
    have := c.isLt; simp only [nD] at this; exact ⟨by simp only [recvS]; omega, by simp only [recvS]; omega⟩
  unfold owe6 owe5 owe4 owe3 owe2 owe1 at h
  simp only [Pi.add_apply, Finsupp.add_apply, tallyAt_apply] at h
  by_contra hn
  have key : ∀ (d : Dev nD) (k : DmaSem sig), 7 ≤ k.val → k.val < 15 → ¬ (g = dcell d k ∧ True) := fun d k h1 h2 h' =>
    hn (by rw [h'.1]; exact ⟨rfl, k, rfl, h1, h2⟩)
  rw [if_neg (key _ _ (by decide) (by decide)), if_neg (key _ _ (by decide) (by decide)), if_neg (key _ _ (by decide) (by decide)),
    if_neg (key _ _ (by decide) (by decide)), if_neg (key _ _ hr.1 hr.2), if_neg (key _ _ hr.1 hr.2)] at h
  exact Nat.lt_irrefl 0 h

/-- before them the barriers as well. -/
theorem owe9_pos {c : Dev nD} {g : GSem nD τ sig} {u : Unit} (h : 0 < owe9 c g u) :
    g.1.2 = .tc ∧ ((∃ s : Sem sig, g.2 = .reg s) ∨ ∃ k : DmaSem sig, g.2 = .dma k ∧ 7 ≤ k.val ∧ k.val < 15) := by
  by_cases h6 : 0 < owe6 c g u
  · exact ⟨(owe6_pos h6).1, .inr (owe6_pos h6).2⟩
  unfold owe9 owe8 owe7 at h
  simp only [Pi.add_apply, Finsupp.add_apply, tallyAt_apply] at h
  by_contra hn
  have key : ∀ (d : Dev nD), ¬ (g = bar d ∧ True) := fun d h' => hn (by rw [h'.1]; exact ⟨rfl, .inl ⟨barS, rfl⟩⟩)
  rw [if_neg (key _), if_neg (key _), if_neg (key _)] at h
  omega

theorem lv_recv {g : GSem nD τ sig} {u : Unit} {k : DmaSem sig} (hk : g.2 = .dma k) (h : 7 ≤ k.val ∧ k.val < 15) : lv g u = 2 := by
  unfold lv; rw [hk]; exact if_pos h

omit [FloatOps F] in
/-- A wait for a staging transfer is allowed before the kernel and after it. -/
theorem mayWait_stage (c : Dev nD) (q : DmaSem sig) (hq : q.val < 7) (O : CellTallies nD τ sig Unit) (hO : O = owe9 c ∨ O = 0) :
    (levAts L lv : sProp 𝕄) ⊢ MayWait (c : Thread nD τ) (.dma q) () O := by
  rcases hO with rfl | rfl
  · have hpos : ∀ (g : GSem nD τ sig) (u : Unit), 0 < owe9 c g u → 0 < lv g u := fun g u hg => by
      rcases (owe9_pos hg).2 with ⟨s, hs⟩ | ⟨k, hk, hk'⟩
      · unfold lv; rw [hs]; exact Nat.one_pos
      · rw [lv_recv hk hk']; decide
    refine MayOwe.of_cut (L := L) (lev := lv) 0 (fun p hp => by rw [Finset.mem_singleton.mp hp, L_tc]; exact Finset.mem_singleton_self _)
      (fun g u hg => by unfold L; rw [if_pos (owe9_pos hg).1]; exact Finset.mem_singleton_self _)
      (fun p hp => by rw [Finset.mem_singleton.mp hp]; dsimp only [lv]; rw [if_neg (by omega)])
      hpos
  · rw [MayWait_zero]; iintro -; iempintro

omit [FloatOps F] in
/-- At its barrier wait a device owes receive cells only, above its barrier cell. -/
theorem mayWait_bar (c : Dev nD) : (levAts L lv : sProp 𝕄) ⊢ MayWait (c : Thread nD τ) (.reg barS) () (owe6 c) :=
  MayOwe.of_cut (L := L) (lev := lv) 1 (fun p hp => by rw [Finset.mem_singleton.mp hp, L_tc]; exact Finset.mem_singleton_self _)
    (fun g u hg => by unfold L; rw [if_pos (owe6_pos hg).1]; exact Finset.mem_singleton_self _)
    (fun p hp => by rw [Finset.mem_singleton.mp hp]; exact le_refl 1)
    (fun g u hg => by obtain ⟨k, hk, hk'⟩ := (owe6_pos hg).2; rw [lv_recv hk hk']; decide)

end Cert.Gather

end
-- ==== Proof.Steps.lean ====
/-
# One operation at a time

The rule for each kind of operation the kernel performs on its semaphores, stated once for every semaphore, peer and
piece: a raise of a peer's barrier, the barrier's wait, a transfer to a peer, a copy of a row block of `w`, a copy of a
quarter of the result, and a wait for a transfer, after which the semaphore is spent and back at zero.
-/
module

public import proofs.«01_k».proof.Proof.Schedule

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No variants are declared. -/
abbrev 𝒱₀ : Variants := Variants.none

/-! ## The cells and their records -/

/-- A device's semaphores by number: 0 for the barrier's, `k` for DMA semaphore `k` (number 0 of these, the staging one,
    belongs to the pipeline). -/
def csem (k : Fin 23) : SemLoc sig := if k = 0 then .reg barS else .dma (k : DmaSem sig)
abbrev kcell (ck : Dev nD × Fin 23) : GSem nD τ sig := ((ck.1 : Thread nD τ), csem ck.2)

theorem kcell_bar (c : Dev nD) : kcell (c, 0) = bar c := by simp only [kcell, csem, if_pos]
theorem kcell_dma (c : Dev nD) {k : DmaSem sig} (hk : k.val ≠ 0) : kcell (c, (k : Fin 23)) = dcell c k := by
  have h : (k : Fin 23) ≠ 0 := fun h => hk (congrArg Fin.val h)
  simp only [kcell, csem, if_neg h]

/-- Every cell's invariant, under the names `K`, and that every cell is at its round 0. -/
def records (K : Dev nD × Fin 23 → ℕ) : sProp 𝕄 :=
  iprop((bigSep Finset.univ fun ck : Dev nD × Fin 23 => cellInv ER (sched m ρ) (K ck) (kcell ck))
    ∗ bigSep Finset.univ fun ck : Dev nD × Fin 23 => reached ER (kcell ck) 0)

instance records_persistent (K : Dev nD × Fin 23 → ℕ) : BI.Persistent (records m ρ K) := by unfold records; infer_instance

variable (K : Dev nD × Fin 23 → ℕ)

theorem inv_of (ck : Dev nD × Fin 23) : records m ρ K ⊢ cellInv ER (sched m ρ) (K ck) (kcell ck) :=
  sep_elim_left.trans (bigSep_elim (Finset.mem_univ ck))
theorem reached_of (ck : Dev nD × Fin 23) : records m ρ K ⊢ reached ER (kcell ck) 0 :=
  sep_elim_right.trans (bigSep_elim (Finset.mem_univ ck))

theorem inv_bar (c : Dev nD) : records m ρ K ⊢ cellInv ER (sched m ρ) (K (c, 0)) (bar c) := by
  rw [← kcell_bar]; exact inv_of m ρ K (c, 0)
theorem reached_bar (c : Dev nD) : records m ρ K ⊢ reached ER (bar c) 0 := by
  rw [← kcell_bar]; exact reached_of m ρ K (c, 0)
theorem inv_dma (c : Dev nD) {k : DmaSem sig} (hk : k.val ≠ 0) :
    records m ρ K ⊢ cellInv ER (sched m ρ) (K (c, (k : Fin 23))) (dcell c k) := by
  rw [← kcell_dma c hk]; exact inv_of m ρ K (c, (k : Fin 23))
theorem reached_dma (c : Dev nD) {k : DmaSem sig} (hk : k.val ≠ 0) : records m ρ K ⊢ reached ER (dcell c k) 0 := by
  rw [← kcell_dma c hk]; exact reached_of m ρ K (c, (k : Fin 23))

/-! ## The rules -/

/-- A device's dues, whatever waits it has made. -/
def dues (c : Dev nD) (O : CellTallies nD τ sig Unit) : sProp 𝕄 := iprop(∃ W : Waits sig Unit, owes (c : Thread nD τ) O W)

/-- A raise of the barrier of `n`, handing over this device's slot `n`. -/
theorem step_raise {α : Type} {Q : α → sProp 𝕄} {k : PUnit → Prog (TpuEff nD τ sig (Elt F) Λ₀ .tc) α}
    (c n n' : Dev nD) (hn : n' = n) (hne : c ≠ n) (a : ℕ) (ha : a = 1) {O₀ : CellTallies nD τ sig Unit} (O : CellTallies nD τ sig Unit)
    (hO : O₀ = O + tallyAt (bar n) () 1) :
    iprop(records m ρ K ∗ dues c O₀ ∗ dutyTok ER (bar n) 0 c ∗ gAny c n 0 512)
      ⊢ iprop((dues c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n' : Thread nD τ) barS a) k) Q) := by
  subst hn ha
  unfold dues
  iintro ⟨#HR, ⟨%W, HO⟩, Ht, Hg⟩ Hk
  iapply (Rounds.wp_signal 𝒱₀ ER (sched m ρ) (c : Thread nD τ) none (dst := (n' : Thread nD τ)) (κ := K (n', 0))
      (d := c) (mem_bar m ρ n' hne) rfl () O hO) $$ [HO Ht Hg]
  · isplitr; · iapply (inv_bar m ρ K n'); iexact HR
    isplitl [HO]; · iexact HO
    isplitl [Ht]; · iexact Ht
    isplitl [Hg]; · iapply (show gAny c n' 0 512 ⊢ (sched m ρ).payload (bar n') 0 c from Entails.rfl); iexact Hg
    iapply (reached_bar m ρ K n'); iexact HR
  iintro HO
  iapply Hk
  iexists W; iexact HO

/-- The wait for the three raises: this device's slots on the three others, and the barrier back at zero. -/
theorem step_barrier {α : Type} {Q : α → sProp 𝕄} {k : PUnit → Prog (TpuEff nD τ sig (Elt F) Λ₀ .tc) α}
    (c : Dev nD) (a : ℕ) (ha : a = 3) :
    iprop(records m ρ K ∗ levAts L lv ∗ cred (tallyAt (bar c) () 3) ∗ dues c (owe6 c) ∗ atPos ER (bar c) 0 ∅ 0)
      ⊢ iprop(((dues c (owe6 c) ∗ semVal (bar c) 0 ∗ gAny (up 1 c) c 0 512 ∗ gAny (up 2 c) c 0 512 ∗ gAny (up 3 c) c 0 512)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  unfold dues
  iintro ⟨#HR, #Hlev, Hc, ⟨%W, HO⟩, Hat⟩ Hk
  iapply (Rounds.wp_wait_rest_token 𝒱₀ ER (sched m ρ) (c : Thread nD τ) none (κ := K (c, 0))
      (wpE_semWait_eq 𝒱₀ (c : Thread nD τ) none Set.univ) (Set.mem_univ _) () (O := owe6 c) (W := W) (R := 0) (m := 0) (T := ∅)
      (by rw [expect_bar])) $$ [Hc HO Hat]
  · isplitr; · iapply (inv_bar m ρ K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (sched m ρ) (Set.mem_univ (K (c, 0))) (fun h => h) (R := 0 + 1) (duties_later m ρ (bar c))) $$ [Hat] with Hz
  · isplitr; · iapply (inv_bar m ρ K c); iexact HR
    iexact Hat
  iapply Hk
  isplitl [HO]; · iexists _; iexact HO
  isplitl [Hz]; · iexact Hz
  iexact Hp

/-- A wait for DMA semaphore `q`: its payload, and the semaphore back at zero. -/
theorem step_wait {α : Type} {Q : α → sProp 𝕄} {k : PUnit → Prog (TpuEff nD τ sig (Elt F) Λ₀ .tc) α}
    (c : Dev nD) {q q' : DmaSem sig} (hq : q' = q) (hu : Used c q) {N : ℕ} (hN : N = amt q)
    {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (.dma q') N P) :
    iprop(records m ρ K ∗ cred (tallyAt (dcell c q) () (amt q)) ∗ dues c 0 ∗ atPos ER (dcell c q) 0 ∅ 0)
      ⊢ iprop(((dues c 0 ∗ semVal (dcell c q) 0 ∗ payD m ρ c q.val)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hq hN
  unfold dues
  iintro ⟨#HR, Hc, ⟨%W, HO⟩, Hat⟩ Hk
  iapply (Rounds.wp_wait_rest_token 𝒱₀ ER (sched m ρ) (c : Thread nD τ) none (κ := K (c, (q' : Fin 23)))
      hw (Set.mem_univ _) () (O := 0) (W := W) (R := 0) (m := 0) (T := ∅)
      (by rw [Nat.zero_add, expect_dma m ρ c hu])) $$ [Hc HO Hat]
  · isplitr; · iapply (inv_dma m ρ K c hu.1); iexact HR
    isplitl [Hc]; · iexact Hc
    isplitl [HO]; · iexact HO
    isplitr; · rw [MayWait_zero]; iempintro
    iexact Hat
  iintro ⟨HO, Hat, -, Hpay⟩
  ihave Hp := (Entails.of_eq (rest_dma m ρ c hu)) $$ Hpay
  imod (Rounds.cell_close ER (sched m ρ) (Set.mem_univ (K (c, (q' : Fin 23)))) (fun h => h) (R := 0 + 1) (duties_later m ρ (dcell c q'))) $$ [Hat] with Hz
  · isplitr; · iapply (inv_dma m ρ K c hu.1); iexact HR
    iexact Hat
  iapply Hk
  isplitl [HO]; · iexists _; iexact HO
  isplitl [Hz]; · iexact Hz
  iexact Hp

/-- The same for the printed wait of two memrefs. -/
theorem step_wait2 {α : Type} {Q : α → sProp 𝕄} {k : PUnit → Prog (TpuEff nD τ sig (Elt F) Λ₀ .tc) α}
    (c : Dev nD) {q q' : DmaSem sig} (hq : q' = q) (hu : Used c q) {sp sp' : Space} {s s' : Shape} {e e' : EltTy}
    (src : Memref sig .tc sp s e) (dst : Memref sig .tc sp' s' e') (hs) (hd) (hN : dst.view.dmaCredit = amt q) :
    iprop(records m ρ K ∗ cred (tallyAt (dcell c q) () (amt q)) ∗ dues c 0 ∗ atPos ER (dcell c q) 0 ∅ 0)
      ⊢ iprop(((dues c 0 ∗ semVal (dcell c q) 0 ∗ payD m ρ c q.val)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q' src dst hs hd) k) Q) :=
  step_wait m ρ K c hq hu hN (wpE_waitDma2_eq 𝒱₀ (c : Thread nD τ) none Set.univ)

/-- A receive semaphore no transfer raises is at zero, and the device's to give back. -/
theorem close_unused (c : Dev nD) {q : DmaSem sig} (hq : q.val ≠ 0) (hu : ¬ Used c q) :
    iprop(records m ρ K ∗ atPos ER (dcell c q) 0 ∅ 0) ⊢ (|={Set.univ}=> semVal (dcell c q) 0 : sProp 𝕄) := by
  iintro ⟨#HR, Hat⟩
  iapply (Rounds.cell_close ER (sched m ρ) (Set.mem_univ (K (c, (q : Fin 23)))) (fun h => h) (R := 0) (fun r _ => duties_unused m ρ c hu r))
  isplitr; · iapply (inv_dma m ρ K c hq); iexact HR
  iexact Hat

/-- A transfer to device `n` of the rows `b … b + len - 1` of its row block, into those rows of this device's slot there. -/
theorem step_send {α : Type} {Q : α → sProp 𝕄} {k : PUnit → Prog (TpuEff nD τ sig (Elt F) Λ₀ .tc) α}
    (c n n' : Dev nD) (hn : n' = n) (a b len : ℕ) (haa : a = 512 * n.val + b) (hb : b + len ≤ 512) {q₁ q₁' q₂ q₂' : DmaSem sig} (hq₁ : q₁' = q₁) (hq₂ : q₂' = q₂)
    (hu₁ : Used c q₁) (hu₂ : Used n q₂) (ha₁ : amt q₁ = crX len) (ha₂ : amt q₂ = crX len)
    (hp₁ : payD m ρ c q₁.val = xP m ρ c a len) (hp₂ : payD m ρ n q₂.val = gP m ρ n c b len)
    {offx : Fin 2 → ℕ} (hx : offx = ![a, 0]) (inbx) (hrx) {offg : Fin 3 → ℕ} (hg : offg = ![c.val, b, 0]) (inbg) (hrg) (hsq)
    (hsc) (hsrc) (hdst) (hsem) {O₀ : CellTallies nD τ sig Unit} (O : CellTallies nD τ sig Unit) (hO : O₀ = O + tallyAt (dcell n q₂) () (crX len)) :
    iprop(records m ρ K ∗ xP m ρ c a len ∗ gAny n c b len ∗ dues c O₀ ∗ dutyTok ER (dcell c q₁) 0 0 ∗ dutyTok ER (dcell n q₂) 0 0)
      ⊢ iprop(((cred (tallyAt (dcell c q₁) () (amt q₁)) ∗ dues c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM.slice (Rect.unit (s := S2048x512) offx (⟨2, ![len, 512]⟩ : Shape).size inbx) hrx)
                (.remote (Dev.tc n' : Thread nD τ)
                  ((gM.slice (Rect.unit (s := S4x512x512) offg (⟨3, ![1, len, 512]⟩ : Shape).size inbg) hrg).squeeze ⟨2, ![len, 512]⟩ hsq)
                  (.dma q₁') hsc) (.dma q₂') hsrc hdst hsem) k) Q) := by
  subst hn hq₁ hq₂ haa
  have hX := rect_rows (m := 2048) (n := 512) (len := len) hx inbx
  have hG := rect_slab (p := 4) (m := 512) (n := 512) (len := len) hg inbg
  have hsetX : (xM.slice (Rect.unit (s := S2048x512) offx (⟨2, ![len, 512]⟩ : Shape).size inbx) hrx).view.set = rows (512 * n'.val + b) len :=
    (View.set_slice_whole cc0_stg0_0 _).trans hX
  have hsetG : ((gM.slice (Rect.unit (s := S4x512x512) offg (⟨3, ![1, len, 512]⟩ : Shape).size inbg) hrg).squeeze ⟨2, ![len, 512]⟩ hsq).view.set
      = slab c.val b len :=
    (Memref.set_view_squeeze _ _).trans ((View.set_slice_whole cc0_scratch0 _).trans hG)
  have hland := write_of_read (Val := Elt F) ((gM.slice (Rect.unit (s := S4x512x512) offg (⟨3, ![1, len, 512]⟩ : Shape).size inbg) hrg).squeeze ⟨2, ![len, 512]⟩ hsq).view
  unfold dues gAny xP
  iintro ⟨#HR, Hx, ⟨%fd, Hg⟩, ⟨%W, HO⟩, Ht₁, Ht₂⟩ Hk
  iapply (Rounds.wp_send_pointsTo 𝒱₀ ER (sched m ρ) (c : Thread nD τ) none (κ₁ := K (c, (q₁' : Fin 23))) (κ₂ := K (n', (q₂' : Fin 23)))
    (c' := (n' : Thread nD τ)) (q := fullShare)
    (src := xM.slice (Rect.unit (s := S2048x512) offx (⟨2, ![len, 512]⟩ : Shape).size inbx) hrx)
    (dst := (gM.slice (Rect.unit (s := S4x512x512) offg (⟨3, ![1, len, 512]⟩ : Shape).size inbg) hrg).squeeze ⟨2, ![len, 512]⟩ hsq)
    (r₁ := 0) (r₂ := 0) (d₁ := 0) (d₂ := 0) (fs := xIn m ρ c) (fd := fd) (mem_dma m ρ c hu₁) (mem_dma m ρ n' hu₂) () () (crX len)
    (credit_g len offg inbg hrg hsq) ha₁ ha₂ O hO (W := W)
    (by
      show _ ⊢ payD m ρ c q₁'.val
      rw [hp₁, hsetX]; exact Entails.rfl)
    (by
      show _ ⊢ payD m ρ n' q₂'.val
      rw [hp₂, pointsTo_congr (hland fd (gAll m ρ n') _ (landed_g m ρ c n' b len hb hx inbx hg inbg hrx hrg hsq)), hsetG]
      exact Entails.rfl)) $$ [Hx Hg HO Ht₁ Ht₂]
  · isplitr; · iapply (inv_dma m ρ K c hu₁.1); iexact HR
    isplitr; · iapply (inv_dma m ρ K n' hu₂.1); iexact HR
    isplitl [Hx]; · rw [hsetX]; iexact Hx
    isplitl [Hg]; · rw [hsetG]; iexact Hg
    isplitl [HO]; · iexact HO
    isplitl [Ht₁]; · iexact Ht₁
    isplitr; · iapply (reached_dma m ρ K c hu₁.1); iexact HR
    isplitl [Ht₂]; · iexact Ht₂
    iapply (reached_dma m ρ K n' hu₂.1); iexact HR
  iintro ⟨Hc, HO⟩
  iapply Hk
  isplitl [Hc]; · rw [ha₁]; iexact Hc
  iexists W; iexact HO

/-- A copy of a row block of `w` into its slot. -/
theorem step_copy_w {α : Type} {Q : α → sProp 𝕄} {k : PUnit → Prog (TpuEff nD τ sig (Elt F) Λ₀ .tc) α}
    (c : Dev nD) (j : Fin 4) {q q' : DmaSem sig} (hq : q' = q) (hu : Used c q) (ha : amt q = crW)
    (hp : payD m ρ c q.val = iprop(vP m c j ∗ wP m c j))
    {offw : Fin 2 → ℕ} (hw : offw = ![512 * (ord c j).val, 0]) (inbw) (hrw) {offv : Fin 3 → ℕ} (hv : offv = ![j.val, 0, 0]) (inbv) (hrv) (hsq)
    (hsrc) (hdst) (hsem) :
    iprop(records m ρ K ∗ wP m c j ∗ vAny c j ∗ dutyTok ER (dcell c q) 0 0)
      ⊢ iprop((cred (tallyAt (dcell c q) () (amt q)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (wM.slice (Rect.unit (s := S2048x2048) offw S512x2048.size inbw) hrw)
                (.here ((vM.slice (Rect.unit (s := S4x512x2048) offv S1x512x2048.size inbv) hrv).squeeze S512x2048 hsq)) (.dma q') hsrc hdst hsem) k) Q) := by
  subst hq
  have hW := rect_rows (m := 2048) (n := 2048) (len := 512) hw inbw
  have hV := rect_slab (p := 4) (m := 512) (n := 2048) (len := 512) hv inbv
  have hsetW : (wM.slice (Rect.unit (s := S2048x2048) offw S512x2048.size inbw) hrw).view.set = rows (512 * (ord c j).val) 512 :=
    (View.set_slice_whole main_arg1 _).trans hW
  have hsetV : ((vM.slice (Rect.unit (s := S4x512x2048) offv S1x512x2048.size inbv) hrv).squeeze S512x2048 hsq).view.set
      = slab j.val 0 512 :=
    (Memref.set_view_squeeze _ _).trans ((View.set_slice_whole cc0_scratch1 _).trans hV)
  have hland := write_of_read (Val := Elt F) ((vM.slice (Rect.unit (s := S4x512x2048) offv S1x512x2048.size inbv) hrv).squeeze S512x2048 hsq).view
  unfold vAny wP
  iintro ⟨#HR, Hw, ⟨%fd, Hv⟩, Ht⟩ Hk
  iapply (Rounds.wp_copy_pointsTo 𝒱₀ ER (sched m ρ) (c : Thread nD τ) none (κ := K (c, (q' : Fin 23))) (q := fullShare)
    (src := wM.slice (Rect.unit (s := S2048x2048) offw S512x2048.size inbw) hrw)
    (dst := (vM.slice (Rect.unit (s := S4x512x2048) offv S1x512x2048.size inbv) hrv).squeeze S512x2048 hsq)
    (r := 0) (d := 0) (fs := wIn m c) (fd := fd) (mem_dma m ρ c hu) () crW (credit_v offv inbv hrv hsq) ha
    (by
      show _ ⊢ payD m ρ c q'.val
      rw [hp, pointsTo_congr (hland fd (vAll m c) _ (landed_v m c j hw inbw hv inbv hrw hrv hsq)), hsetV, hsetW]
      exact Entails.rfl)) $$ [Hw Hv Ht]
  · isplitr; · iapply (inv_dma m ρ K c hu.1); iexact HR
    isplitl [Hw]; · rw [hsetW]; iexact Hw
    isplitl [Hv]; · rw [hsetV]; iexact Hv
    isplitl [Ht]; · iexact Ht
    iapply (reached_dma m ρ K c hu.1); iexact HR
  iintro Hc
  iapply Hk
  rw [ha]; iexact Hc

/-- The result's buffer, a quarter at some contents. -/
def oAny (c : Dev nD) (h : Fin 4) : sProp 𝕄 :=
  iprop(∃ f : Buf (Elt F) ((c : Thread nD τ).loc main_v1),
    ((c : Thread nD τ).loc main_v1) ↦[rows (m := 512) (n := 2048) (128 * h.val) 128]{fullShare} f)

/-- A copy of a quarter of the accumulator into the result's buffer. -/
theorem step_copy_o {α : Type} {Q : α → sProp 𝕄} {k : PUnit → Prog (TpuEff nD τ sig (Elt F) Λ₀ .tc) α}
    (c : Dev nD) (h : Fin 4) {q q' : DmaSem sig} (hq : q' = q) (hu : Used c q) (ha : amt q = crO)
    (hp : payD m ρ c q.val = iprop(oP m ρ c h ∗ aP m ρ c h))
    {offa : Fin 2 → ℕ} (hoa : offa = ![128 * h.val, 0]) (inba) (hra) {offo : Fin 2 → ℕ} (hoo : offo = ![128 * h.val, 0]) (inbo) (hro)
    (hsrc) (hdst) (hsem) :
    iprop(records m ρ K ∗ aP m ρ c h ∗ oAny c h ∗ dutyTok ER (dcell c q) 0 0)
      ⊢ iprop((cred (tallyAt (dcell c q) () (amt q)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (aM.slice (Rect.unit (s := S512x2048) offa S128x2048.size inba) hra)
                (.here (oM.slice (Rect.unit (s := S512x2048) offo S128x2048.size inbo) hro)) (.dma q') hsrc hdst hsem) k) Q) := by
  subst hq
  have hA := rect_rows (m := 512) (n := 2048) (len := 128) hoa inba
  have hO := rect_rows (m := 512) (n := 2048) (len := 128) hoo inbo
  have hsetA : (aM.slice (Rect.unit (s := S512x2048) offa S128x2048.size inba) hra).view.set = rows (128 * h.val) 128 :=
    (View.set_slice_whole cc0_scratch2 _).trans hA
  have hsetO : (oM.slice (Rect.unit (s := S512x2048) offo S128x2048.size inbo) hro).view.set = rows (128 * h.val) 128 :=
    (View.set_slice_whole main_v1 _).trans hO
  have hland := write_of_read (Val := Elt F) (oM.slice (Rect.unit (s := S512x2048) offo S128x2048.size inbo) hro).view
  unfold oAny aP
  iintro ⟨#HR, Ha, ⟨%fd, Ho⟩, Ht⟩ Hk
  iapply (Rounds.wp_copy_pointsTo 𝒱₀ ER (sched m ρ) (c : Thread nD τ) none (κ := K (c, (q' : Fin 23))) (q := fullShare)
    (src := aM.slice (Rect.unit (s := S512x2048) offa S128x2048.size inba) hra)
    (dst := oM.slice (Rect.unit (s := S512x2048) offo S128x2048.size inbo) hro)
    (r := 0) (d := 0) (fs := res m ρ c) (fd := fd) (mem_dma m ρ c hu) () crO (credit_o offo inbo hro) ha
    (by
      show _ ⊢ payD m ρ c q'.val
      rw [hp, pointsTo_congr (hland fd (res m ρ c) _ ((read_res_o m ρ c h hoo inbo).trans (read_res_a m ρ c h hoa inba).symm)), hsetO, hsetA]
      exact Entails.rfl)) $$ [Ha Ho Ht]
  · isplitr; · iapply (inv_dma m ρ K c hu.1); iexact HR
    isplitl [Ha]; · rw [hsetA]; iexact Ha
    isplitl [Ho]; · rw [hsetO]; iexact Ho
    isplitl [Ht]; · iexact Ht
    iapply (reached_dma m ρ K c hu.1); iexact HR
  iintro Hc
  iapply Hk
  rw [ha]; iexact Hc

end Cert.Gather

end
-- ==== Proof.Access.lean ====
/-
# Loads and stores

The rule for each load and store of the kernel: what is loaded, by the contents the piece is known to hold, and what a
store leaves.
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-- A load of a piece that is held: the value its known contents read as, and the piece kept. -/
theorem load_piece {α : Type} {Q : α → sProp 𝕄} (c : Dev nD) {cs : CoreSpace} {s : Shape} {e : EltTy} (M : Memref sig .tc cs s e) (r : Rect s)
    {hl : M.view.LoadsAt r.toLoadRect} {k : (r.toLoadRect.shape.Idx → Elt F e) → Prog (TpuEff nD τ sig (Elt F) Λ₀ .tc) α}
    {S : Finset (Idx ((M.access r).loc (c : Thread nD τ)))} (hS : (M.access r).set = S) {f : Buf (Elt F) ((M.access r).loc (c : Thread nD τ))}
    {v : r.shape.Idx → Elt F e} (hv : (M.access r).read (Elt F) f = v) :
    ((M.access r).loc (c : Thread nD τ) ↦[S]{fullShare} f)
      ⊢ iprop((((M.access r).loc (c : Thread nD τ) ↦[S]{fullShare} f) -∗ wp frame (wpE (defs₀ (F := F)) 𝒱₀ (c : Thread nD τ) none) Set.univ (k v) Q)
          -∗ wp frame (wpE (defs₀ (F := F)) 𝒱₀ (c : Thread nD τ) none) Set.univ (.op (.load M r.toLoadRect hl) k) Q) := by
  subst hS hv
  iintro H Hk
  iapply (wp_load 𝒱₀ (c : Thread nD τ) none Set.univ (m := M) (hl := hl) (k := k) (by rw [View.set_slice]; exact Finset.Subset.refl _)) $$ H
  iintro H
  rw [View.readAt_rect]
  iapply Hk; iexact H

section Loads

variable (c : Dev nD)

/-- The device's own row block of its column block of `x`. -/
theorem step_load_x {α : Type} {Q : α → sProp 𝕄} {off : Fin 2 → ℕ} (ho : off = ![512 * c.val, 0]) (inb) (hl)
    {k : (S512x512.Idx → Elt F .bf16) → Prog (TpuEff nD τ sig (Elt F) Λ₀ .tc) α} :
    xP m ρ c (512 * c.val) 512
      ⊢ iprop((xP m ρ c (512 * c.val) 512 -∗ wp frame (wpE (defs₀ (F := F)) 𝒱₀ (c : Thread nD τ) none) Set.univ (k (xBlk m ρ c)) Q)
          -∗ wp frame (wpE (defs₀ (F := F)) 𝒱₀ (c : Thread nD τ) none) Set.univ
              (.op (.load xM (Rect.unit (s := S2048x512) off S512x512.size inb).toLoadRect hl) k) Q) := by
  unfold xP
  exact load_piece c xM (Rect.unit (s := S2048x512) off S512x512.size inb) (k := k)
    ((View.set_slice_whole cc0_stg0_0 _).trans (rect_rows (m := 2048) (n := 512) (len := 512) ho inb)) (load_x m ρ c ho inb)

/-- A slot of the gather buffer. -/
theorem step_load_g {α : Type} {Q : α → sProp 𝕄} (j : Dev nD) {off : Fin 3 → ℕ} (ho : off = ![j.val, 0, 0]) (inb) (hl)
    {k : (S1x512x512.Idx → Elt F .bf16) → Prog (TpuEff nD τ sig (Elt F) Λ₀ .tc) α} :
    gP m ρ c j 0 512
      ⊢ iprop((gP m ρ c j 0 512 -∗ wp frame (wpE (defs₀ (F := F)) 𝒱₀ (c : Thread nD τ) none) Set.univ (k (gBlk m ρ c j)) Q)
          -∗ wp frame (wpE (defs₀ (F := F)) 𝒱₀ (c : Thread nD τ) none) Set.univ
              (.op (.load gM (Rect.unit (s := S4x512x512) off S1x512x512.size inb).toLoadRect hl) k) Q) := by
  unfold gP
  exact load_piece c gM (Rect.unit (s := S4x512x512) off S1x512x512.size inb) (k := k)
    ((View.set_slice_whole cc0_scratch0 _).trans (rect_slab (p := 4) (m := 512) (n := 512) (len := 512) ho inb)) (load_g m ρ c j ho inb)

/-- A quarter of the opposite device's slot. -/
theorem step_load_gq {α : Type} {Q : α → sProp 𝕄} (h : Fin 4) {off : Fin 3 → ℕ} (ho : off = ![(up 2 c).val, 128 * h.val, 0]) (inb) (hl)
    {k : (S1x128x512.Idx → Elt F .bf16) → Prog (TpuEff nD τ sig (Elt F) Λ₀ .tc) α} :
    gP m ρ c (up 2 c) (128 * h.val) 128
      ⊢ iprop((gP m ρ c (up 2 c) (128 * h.val) 128 -∗ wp frame (wpE (defs₀ (F := F)) 𝒱₀ (c : Thread nD τ) none) Set.univ (k (gQuarter m ρ c h)) Q)
          -∗ wp frame (wpE (defs₀ (F := F)) 𝒱₀ (c : Thread nD τ) none) Set.univ
              (.op (.load gM (Rect.unit (s := S4x512x512) off S1x128x512.size inb).toLoadRect hl) k) Q) := by
  unfold gP
  exact load_piece c gM (Rect.unit (s := S4x512x512) off S1x128x512.size inb) (k := k)
    ((View.set_slice_whole cc0_scratch0 _).trans (rect_slab (p := 4) (m := 512) (n := 512) (len := 128) ho inb)) (load_gq m ρ c h ho inb)

/-- A copied row block of `w`. -/
theorem step_load_v {α : Type} {Q : α → sProp 𝕄} (j : Fin 4) {off : Fin 3 → ℕ} (ho : off = ![j.val, 0, 0]) (inb) (hl)
    {k : (S1x512x2048.Idx → Elt F .bf16) → Prog (TpuEff nD τ sig (Elt F) Λ₀ .tc) α} :
    vP m c j
      ⊢ iprop((vP m c j -∗ wp frame (wpE (defs₀ (F := F)) 𝒱₀ (c : Thread nD τ) none) Set.univ (k (vBlk m c j)) Q)
          -∗ wp frame (wpE (defs₀ (F := F)) 𝒱₀ (c : Thread nD τ) none) Set.univ
              (.op (.load vM (Rect.unit (s := S4x512x2048) off S1x512x2048.size inb).toLoadRect hl) k) Q) := by
  unfold vP
  exact load_piece c vM (Rect.unit (s := S4x512x2048) off S1x512x2048.size inb) (k := k)
    ((View.set_slice_whole cc0_scratch1 _).trans (rect_slab (p := 4) (m := 512) (n := 2048) (len := 512) ho inb)) (load_v m c j ho inb)

/-- The accumulator, whole, -/
def aAll (f : FVec F S512x2048 .f32) : sProp 𝕄 := ((c : Thread nD τ).loc cc0_scratch2) ↦{fullShare} (f : Buf (Elt F) ((c : Thread nD τ).loc cc0_scratch2))
/-- and a quarter of it, before the last product is added. -/
def aQ (h : Fin 4) : sProp 𝕄 :=
  ((c : Thread nD τ).loc cc0_scratch2) ↦[rows (m := 512) (n := 2048) (128 * h.val) 128]{fullShare} (acc3 m ρ c : Buf (Elt F) ((c : Thread nD τ).loc cc0_scratch2))

omit [FloatOps F] in
theorem zeros2 : (![0, 0] : Fin 2 → ℕ) = fun _ => 0 := by funext i; match i with | ⟨0, _⟩ => rfl | ⟨1, _⟩ => rfl

/-- A load of the whole accumulator. -/
theorem step_load_a {α : Type} {Q : α → sProp 𝕄} (f : FVec F S512x2048 .f32) (inb) (hl)
    {k : (S512x2048.Idx → Elt F .f32) → Prog (TpuEff nD τ sig (Elt F) Λ₀ .tc) α} :
    aAll c f
      ⊢ iprop((aAll c f -∗ wp frame (wpE (defs₀ (F := F)) 𝒱₀ (c : Thread nD τ) none) Set.univ (k f) Q)
          -∗ wp frame (wpE (defs₀ (F := F)) 𝒱₀ (c : Thread nD τ) none) Set.univ
              (.op (.load aM (Rect.unit (s := S512x2048) ![0, 0] S512x2048.size inb).toLoadRect hl) k) Q) := by
  unfold aAll
  iintro H Hk
  iapply (wp_load 𝒱₀ (c : Thread nD τ) none Set.univ (m := aM) (hl := hl) (k := k) (Finset.subset_univ _)) $$ H
  iintro H
  have hr : aM.view.readAt (Elt F) (Rect.unit (s := S512x2048) ![0, 0] S512x2048.size inb).toLoadRect f = f :=
    Memref.readAt_unit_zero (Elt F) cc0_scratch2 zeros2 _ (f : (cc0_scratch2 : Ref sig .tc).ty.Contents (Elt F))
  rw [hr]
  iapply Hk; iexact H

/-- A store over the whole accumulator. -/
theorem step_store_a {α : Type} {Q : α → sProp 𝕄} (f w : FVec F S512x2048 .f32) (inb) (hx) (hm)
    {k : PUnit → Prog (TpuEff nD τ sig (Elt F) Λ₀ .tc) α} :
    aAll c f
      ⊢ iprop((aAll c w -∗ wp frame (wpE (defs₀ (F := F)) 𝒱₀ (c : Thread nD τ) none) Set.univ (k ⟨⟩) Q)
          -∗ wp frame (wpE (defs₀ (F := F)) 𝒱₀ (c : Thread nD τ) none) Set.univ
              (.op (.store aM (Rect.unit (s := S512x2048) ![0, 0] S512x2048.size inb) w Finset.univ hx hm) k) Q) := by
  unfold aAll
  iintro H Hk
  iapply (wp_store 𝒱₀ (c : Thread nD τ) none Set.univ (m := aM) (r := Rect.unit (s := S512x2048) ![0, 0] S512x2048.size inb) (w := w) (Mk := Finset.univ)
    (hx := hx) (hm := hm) (k := k) (Finset.subset_univ _)) $$ H
  iintro H
  have hr : (aM.access (Rect.unit (s := S512x2048) ![0, 0] S512x2048.size inb)).write (Elt F) f w Finset.univ = w :=
    Memref.write_access_unit_zero_univ (Elt F) cc0_scratch2 zeros2 _ (f : (cc0_scratch2 : Ref sig .tc).ty.Contents (Elt F)) w
  rw [hr]
  iapply Hk; iexact H

/-- A load of a quarter of the accumulator. -/
theorem step_load_aq {α : Type} {Q : α → sProp 𝕄} (h : Fin 4) {off : Fin 2 → ℕ} (ho : off = ![128 * h.val, 0]) (inb) (hl)
    {k : (S128x2048.Idx → Elt F .f32) → Prog (TpuEff nD τ sig (Elt F) Λ₀ .tc) α} :
    aQ m ρ c h
      ⊢ iprop((aQ m ρ c h -∗ wp frame (wpE (defs₀ (F := F)) 𝒱₀ (c : Thread nD τ) none) Set.univ (k (accQuarter m ρ c h)) Q)
          -∗ wp frame (wpE (defs₀ (F := F)) 𝒱₀ (c : Thread nD τ) none) Set.univ
              (.op (.load aM (Rect.unit (s := S512x2048) off S128x2048.size inb).toLoadRect hl) k) Q) := by
  unfold aQ
  exact load_piece c aM (Rect.unit (s := S512x2048) off S128x2048.size inb) (k := k)
    ((View.set_slice_whole cc0_scratch2 _).trans (rect_rows (m := 512) (n := 2048) (len := 128) ho inb)) (load_a m ρ c h ho inb)

/-- A store of the result's quarter over that of the accumulator. -/
theorem step_store_aq {α : Type} {Q : α → sProp 𝕄} (h : Fin 4) {off : Fin 2 → ℕ} (ho : off = ![128 * h.val, 0]) (w : FVec F S128x2048 .f32)
    (hw : w = resQuarter m ρ c h) (inb) (hx) (hm) {k : PUnit → Prog (TpuEff nD τ sig (Elt F) Λ₀ .tc) α} :
    aQ m ρ c h
      ⊢ iprop((aP m ρ c h -∗ wp frame (wpE (defs₀ (F := F)) 𝒱₀ (c : Thread nD τ) none) Set.univ (k ⟨⟩) Q)
          -∗ wp frame (wpE (defs₀ (F := F)) 𝒱₀ (c : Thread nD τ) none) Set.univ
              (.op (.store aM (Rect.unit (s := S512x2048) off S128x2048.size inb) w Finset.univ hx hm) k) Q) := by
  have hset : (aM.access (Rect.unit (s := S512x2048) off S128x2048.size inb)).set = rows (128 * h.val) 128 :=
    (View.set_slice_whole cc0_scratch2 _).trans (rect_rows (m := 512) (n := 2048) (len := 128) ho inb)
  have hland := write_of_read (Val := Elt F) (aM.access (Rect.unit (s := S512x2048) off S128x2048.size inb)) (acc3 m ρ c) (res m ρ c) w
    ((read_res_a m ρ c h ho inb).trans hw.symm)
  rw [hset] at hland
  unfold aQ aP
  iintro H Hk
  iapply (wp_store 𝒱₀ (c : Thread nD τ) none Set.univ (m := aM) (r := Rect.unit (s := S512x2048) off S128x2048.size inb) (w := w) (Mk := Finset.univ)
    (hx := hx) (hm := hm) (k := k) (S := rows (128 * h.val) 128) (by rw [← hset]; exact View.setOn_subset_set _ _)) $$ H
  iintro H
  ihave H := (Entails.of_eq (pointsTo_congr hland)) $$ H
  iapply Hk; iexact H

end Loads

end Cert.Gather

end
-- ==== Proof.Opening.lean ====
/-
# The first half of the body: barrier, transfers, copies

The body is printed in eleven parts. The first raises the three barriers and waits for its own; the second and third
issue the six transfers; the fourth issues the four copies of row blocks of `w`. Each is stated with what it takes and
what it leaves to the rest of the body.
-/
module

public import proofs.«01_k».proof.Proof.Access

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 23 → ℕ) (c : Dev nD)

/-- The right to make semaphore `k`'s raise on device `c`, -/
abbrev tokD (c : Dev nD) (k : DmaSem sig) : sProp 𝕄 := dutyTok ER (dcell c k) 0 (0 : D)
/-- the credit of that raise, -/
abbrev crD (c : Dev nD) (k : DmaSem sig) : sProp 𝕄 := cred (tallyAt (dcell c k) () (amt k))
/-- the waiter's place at that semaphore's round 0, -/
abbrev atD (c : Dev nD) (k : DmaSem sig) : sProp 𝕄 := atPos ER (dcell c k) 0 ∅ 0
/-- and the semaphore back at zero. -/
abbrev zD (c : Dev nD) (k : DmaSem sig) : sProp 𝕄 := semVal (dcell c k) 0

theorem up_ne (c : Dev nD) : c ≠ up 1 c ∧ c ≠ up 2 c ∧ c ≠ up 3 c := by revert c; decide
/-- The own semaphores numbered 1 to 6 and 11 up are raised on every device, -/
theorem used_own (c : Dev nD) (k : DmaSem sig) (h : (k.val ≠ 0 ∧ k.val < 7) ∨ 10 < k.val) : Used c k := by
  have h1 := c.isLt; have h2 := (up 2 c).isLt
  simp only [nD] at h1 h2
  unfold Used; omega
/-- and the receive semaphores of a device's two neighbours. -/
theorem used_recv (c : Dev nD) : Used (up 1 c) (recvS c) ∧ Used (up 3 c) (recvS c) ∧ Used c (recvS (up 1 c)) ∧ Used c (recvS (up 3 c)) := by
  revert c; decide

/-- The quarters arrive from the opposite device, whose opposite device this one is. -/
theorem payD_quarter (c : Dev nD) (h : Fin 4) : payD m ρ (up 2 c) (11 + h.val) = gP m ρ (up 2 c) c (128 * h.val) 128 := by
  have h2 : up 2 (up 2 c) = c := by revert c; decide
  have h3 : payD m ρ (up 2 c) (11 + h.val) = gP m ρ (up 2 c) (up 2 (up 2 c)) (128 * h.val) 128 := by
    match h with
    | ⟨0, _⟩ => rfl
    | ⟨1, _⟩ => rfl
    | ⟨2, _⟩ => rfl
    | ⟨3, _⟩ => rfl
  rw [h3, h2]

/-- The first part: the three raises and the wait. -/
theorem part1_sound (Kt : (Σ' (_ : Dev nD), BitVec 32) → sProp 𝕄) :
    iprop(records m ρ K ∗ (levAts L lv ∗ cred (tallyAt (bar c) () 3) ∗ dues c (owe9 c) ∗ atPos ER (bar c) 0 ∅ 0
        ∗ (dutyTok ER (bar (up 1 c)) 0 c ∗ dutyTok ER (bar (up 2 c)) 0 c ∗ dutyTok ER (bar (up 3 c)) 0 c)
        ∗ gAny c (up 1 c) 0 512 ∗ gAny c (up 2 c) 0 512 ∗ gAny c (up 3 c) 0 512)
      ∗ ((dues c (owe6 c) ∗ semVal (bar c) 0 ∗ gAny (up 1 c) c 0 512 ∗ gAny (up 2 c) c 0 512 ∗ gAny (up 3 c) c 0 512) -∗ Kt ⟨c, Scalar.remsi (Scalar.divsi (Dev.word c) 1#32) 4#32⟩))
      ⊢ wp frame (wpE (defs₀ (F := F)) 𝒱₀ (c : Thread nD τ) none) Set.univ
          (k0_part1 xM (Memref.isWhole_whole _) wM (Memref.isWhole_whole _) oM (Memref.isWhole_whole _) gM (Memref.isWhole_whole _)
            vM (Memref.isWhole_whole _) aM (Memref.isWhole_whole _) cc0_scratch3 cc0_scratch4 cc0_scratch5 cc0_scratch6 cc0_scratch7) Kt := by
  rw [k0_part1_eq_skeleton]; unfold k0_part1_skel
  simp only [semSignalWord, semWaitWord, Prog.lift, Prog.bind_op, Prog.bind_ret, Prog.pure_eq_ret, wp_deviceId]
  iintro ⟨#HR, ⟨#Hlev, Hc, HO, Hat, ⟨Ht1, Ht2, Ht3⟩, Hg1, Hg2, Hg3⟩, Hk⟩
  iapply (step_raise m ρ K c (up 1 c) _ (dev1_eq c) (up_ne c).1 _ rfl (owe8 c) rfl) $$ [HO Ht1 Hg1]
  · isplitr; · iexact HR
    isplitl [HO]; · iexact HO
    isplitl [Ht1] <;> iassumption
  iintro HO
  iapply (step_raise m ρ K c (up 2 c) _ (dev2_eq c) (up_ne c).2.1 _ rfl (owe7 c) rfl) $$ [HO Ht2 Hg2]
  · isplitr; · iexact HR
    isplitl [HO]; · iexact HO
    isplitl [Ht2] <;> iassumption
  iintro HO
  iapply (step_raise m ρ K c (up 3 c) _ (dev3_eq c) (up_ne c).2.2 _ rfl (owe6 c) rfl) $$ [HO Ht3 Hg3]
  · isplitr; · iexact HR
    isplitl [HO]; · iexact HO
    isplitl [Ht3] <;> iassumption
  iintro HO
  iapply (step_barrier m ρ K c _ rfl) $$ [Hc HO Hat]
  · isplitr; · iexact HR
    isplitr; · iexact Hlev
    isplitl [Hc]; · iexact Hc
    isplitl [HO] <;> iassumption
  iintro H
  rw [wp_ret]; imodintro
  iapply Hk; iexact H

/-- The second part: the blocks to the two neighbours and the first quarter to the opposite device. -/
theorem part2_sound (v2 : BitVec 32) (Kt : BitVec 32 → sProp 𝕄) :
    iprop(records m ρ K ∗ (dues c (owe6 c)
        ∗ (xP m ρ c (512 * (up 1 c).val) 512 ∗ gAny (up 1 c) c 0 512 ∗ tokD c 1 ∗ tokD (up 1 c) (recvS c))
        ∗ (xP m ρ c (512 * (up 3 c).val) 512 ∗ gAny (up 3 c) c 0 512 ∗ tokD c 2 ∗ tokD (up 3 c) (recvS c))
        ∗ xP m ρ c (512 * (up 2 c).val + 128 * 0) 128 ∗ gAny (up 2 c) c (128 * 0) 128 ∗ tokD c 3 ∗ tokD (up 2 c) 11)
      ∗ ((dues c (owe3 c) ∗ crD c 1 ∗ crD c 2 ∗ crD c 3) -∗ Kt (Scalar.remsi (Scalar.addi v2 2#32) 4#32)))
      ⊢ wp frame (wpE (defs₀ (F := F)) 𝒱₀ (c : Thread nD τ) none) Set.univ
          (k0_part2 xM (Memref.isWhole_whole _) wM (Memref.isWhole_whole _) oM (Memref.isWhole_whole _) gM (Memref.isWhole_whole _)
            vM (Memref.isWhole_whole _) aM (Memref.isWhole_whole _) cc0_scratch3 cc0_scratch4 cc0_scratch5 cc0_scratch6 cc0_scratch7 c v2) Kt := by
  rw [k0_part2_eq_skeleton]; unfold k0_part2_skel
  simp only [Prog.lift, Prog.bind_op, Prog.bind_ret, Prog.pure_eq_ret]
  iintro ⟨#HR, ⟨HO, ⟨Hx1, Hg1, Ha1, Hb1⟩, ⟨Hx2, Hg2, Ha2, Hb2⟩, Hx3, Hg3, Ha3, Hb3⟩, Hk⟩
  iapply (step_send m ρ K c (up 1 c) _ (dev4_eq c) (512 * (up 1 c).val) 0 512 rfl (by decide) (q₁ := 1) (q₂ := recvS c) rfl (sem_off1 c)
    (used_own c 1 (by decide)) (used_recv c).1 rfl (amt_recv c) rfl (payD_recv m ρ (up 1 c) c) (off3_eq1 c) _ _ (off2_eq c) _ _ _ _ _ _ _ (owe5 c) rfl)
    $$ [Hx1 Hg1 HO Ha1 Hb1]
  · isplitr; · iexact HR
    isplitl [Hx1]; · iexact Hx1
    isplitl [Hg1]; · iexact Hg1
    isplitl [HO]; · iexact HO
    isplitl [Ha1] <;> iassumption
  iintro ⟨Hc1, HO⟩
  iapply (step_send m ρ K c (up 3 c) _ (dev5_eq c) (512 * (up 3 c).val) 0 512 rfl (by decide) (q₁ := 2) (q₂ := recvS c) rfl (sem_off1 c)
    (used_own c 2 (by decide)) (used_recv c).2.1 rfl (amt_recv c) rfl (payD_recv m ρ (up 3 c) c) (off3_eq3 c) _ _ (off2_eq c) _ _ _ _ _ _ _ (owe4 c) rfl)
    $$ [Hx2 Hg2 HO Ha2 Hb2]
  · isplitr; · iexact HR
    isplitl [Hx2]; · iexact Hx2
    isplitl [Hg2]; · iexact Hg2
    isplitl [HO]; · iexact HO
    isplitl [Ha2] <;> iassumption
  iintro ⟨Hc2, HO⟩
  iapply (step_send m ρ K c (up 2 c) _ (dev6_eq c) (512 * (up 2 c).val + 128 * 0) (128 * 0) 128 rfl (by decide) (q₁ := 3) (q₂ := 11) rfl rfl
    (used_own c 3 (by decide)) (used_own (up 2 c) 11 (by decide)) rfl rfl rfl (payD_quarter m ρ c 0) (off5_eq0 c) _ _ (off4_eq c) _ _ _ _ _ _ _ (owe3 c) rfl)
    $$ [Hx3 Hg3 HO Ha3 Hb3]
  · isplitr; · iexact HR
    isplitl [Hx3]; · iexact Hx3
    isplitl [Hg3]; · iexact Hg3
    isplitl [HO]; · iexact HO
    isplitl [Ha3] <;> iassumption
  iintro ⟨Hc3, HO⟩
  rw [wp_ret]; imodintro
  iapply Hk
  isplitl [HO]; · iexact HO
  isplitl [Hc1]; · iexact Hc1
  isplitl [Hc2] <;> iassumption

/-- The third part: the other three quarters to the opposite device. -/
theorem part3_sound (v2 v41 : BitVec 32) (Kt : PUnit → sProp 𝕄) :
    iprop(records m ρ K ∗ (dues c (owe3 c)
        ∗ (xP m ρ c (512 * (up 2 c).val + 128 * 1) 128 ∗ gAny (up 2 c) c (128 * 1) 128 ∗ tokD c 4 ∗ tokD (up 2 c) 12)
        ∗ (xP m ρ c (512 * (up 2 c).val + 128 * 2) 128 ∗ gAny (up 2 c) c (128 * 2) 128 ∗ tokD c 5 ∗ tokD (up 2 c) 13)
        ∗ xP m ρ c (512 * (up 2 c).val + 128 * 3) 128 ∗ gAny (up 2 c) c (128 * 3) 128 ∗ tokD c 6 ∗ tokD (up 2 c) 14)
      ∗ ((dues c 0 ∗ crD c 4 ∗ crD c 5 ∗ crD c 6) -∗ Kt ⟨⟩))
      ⊢ wp frame (wpE (defs₀ (F := F)) 𝒱₀ (c : Thread nD τ) none) Set.univ
          (k0_part3 xM (Memref.isWhole_whole _) wM (Memref.isWhole_whole _) oM (Memref.isWhole_whole _) gM (Memref.isWhole_whole _)
            vM (Memref.isWhole_whole _) aM (Memref.isWhole_whole _) cc0_scratch3 cc0_scratch4 cc0_scratch5 cc0_scratch6 cc0_scratch7 c v2 v41) Kt := by
  rw [k0_part3_eq_skeleton]; unfold k0_part3_skel
  simp only [Prog.lift, Prog.bind_op, Prog.bind_ret, Prog.pure_eq_ret]
  iintro ⟨#HR, ⟨HO, ⟨Hx1, Hg1, Ha1, Hb1⟩, ⟨Hx2, Hg2, Ha2, Hb2⟩, Hx3, Hg3, Ha3, Hb3⟩, Hk⟩
  iapply (step_send m ρ K c (up 2 c) _ (dev7_eq c) (512 * (up 2 c).val + 128 * 1) (128 * 1) 128 rfl (by decide) (q₁ := 4) (q₂ := 12) rfl rfl
    (used_own c 4 (by decide)) (used_own (up 2 c) 12 (by decide)) rfl rfl rfl (payD_quarter m ρ c 1) (off5_eq1 c) _ _ (off6_eq c) _ _ _ _ _ _ _ (owe2 c) rfl)
    $$ [Hx1 Hg1 HO Ha1 Hb1]
  · isplitr; · iexact HR
    isplitl [Hx1]; · iexact Hx1
    isplitl [Hg1]; · iexact Hg1
    isplitl [HO]; · iexact HO
    isplitl [Ha1] <;> iassumption
  iintro ⟨Hc1, HO⟩
  iapply (step_send m ρ K c (up 2 c) _ (dev8_eq c) (512 * (up 2 c).val + 128 * 2) (128 * 2) 128 rfl (by decide) (q₁ := 5) (q₂ := 13) rfl rfl
    (used_own c 5 (by decide)) (used_own (up 2 c) 13 (by decide)) rfl rfl rfl (payD_quarter m ρ c 2) (off5_eq2 c) _ _ (off7_eq c) _ _ _ _ _ _ _ (owe1 c) rfl)
    $$ [Hx2 Hg2 HO Ha2 Hb2]
  · isplitr; · iexact HR
    isplitl [Hx2]; · iexact Hx2
    isplitl [Hg2]; · iexact Hg2
    isplitl [HO]; · iexact HO
    isplitl [Ha2] <;> iassumption
  iintro ⟨Hc2, HO⟩
  iapply (step_send m ρ K c (up 2 c) _ (dev9_eq c) (512 * (up 2 c).val + 128 * 3) (128 * 3) 128 rfl (by decide) (q₁ := 6) (q₂ := 14) rfl rfl
    (used_own c 6 (by decide)) (used_own (up 2 c) 14 (by decide)) rfl rfl rfl (payD_quarter m ρ c 3) (off5_eq3 c) _ _ (off8_eq c) _ _ _ _ _ _ _ 0 (zero_add _).symm)
    $$ [Hx3 Hg3 HO Ha3 Hb3]
  · isplitr; · iexact HR
    isplitl [Hx3]; · iexact Hx3
    isplitl [Hg3]; · iexact Hg3
    isplitl [HO]; · iexact HO
    isplitl [Ha3] <;> iassumption
  iintro ⟨Hc3, HO⟩
  rw [wp_ret]; imodintro
  iapply Hk
  isplitl [HO]; · iexact HO
  isplitl [Hc1]; · iexact Hc1
  isplitl [Hc2] <;> iassumption

/-- The fourth part: the copies of the row blocks of `w`. -/
theorem part4_sound (v2 : BitVec 32) (Kt : PUnit → sProp 𝕄) :
    iprop(records m ρ K ∗ ((wP m c 0 ∗ vAny c 0 ∗ tokD c 15) ∗ (wP m c 1 ∗ vAny c 1 ∗ tokD c 16) ∗ (wP m c 2 ∗ vAny c 2 ∗ tokD c 17)
        ∗ wP m c 3 ∗ vAny c 3 ∗ tokD c 18)
      ∗ ((crD c 15 ∗ crD c 16 ∗ crD c 17 ∗ crD c 18) -∗ Kt ⟨⟩))
      ⊢ wp frame (wpE (defs₀ (F := F)) 𝒱₀ (c : Thread nD τ) none) Set.univ
          (k0_part4 xM (Memref.isWhole_whole _) wM (Memref.isWhole_whole _) oM (Memref.isWhole_whole _) gM (Memref.isWhole_whole _)
            vM (Memref.isWhole_whole _) aM (Memref.isWhole_whole _) cc0_scratch3 cc0_scratch4 cc0_scratch5 cc0_scratch6 cc0_scratch7 c v2) Kt := by
  rw [k0_part4_eq_skeleton]; unfold k0_part4_skel
  simp only [Prog.lift, Prog.bind_op, Prog.bind_ret, Prog.pure_eq_ret]
  iintro ⟨#HR, ⟨⟨Hw0, Hv0, Ht0⟩, ⟨Hw1, Hv1, Ht1⟩, ⟨Hw2, Hv2, Ht2⟩, Hw3, Hv3, Ht3⟩, Hk⟩
  iapply (step_copy_w m ρ K c 0 (q := 15) rfl (used_own c 15 (by decide)) rfl rfl (off9_eq0 c) _ _ rfl _ _ _ _ _ _) $$ [Hw0 Hv0 Ht0]
  · isplitr; · iexact HR
    isplitl [Hw0]; · iexact Hw0
    isplitl [Hv0] <;> iassumption
  iintro Hc0
  iapply (step_copy_w m ρ K c 1 (q := 16) rfl (used_own c 16 (by decide)) rfl rfl (off9_eq3 c) _ _ rfl _ _ _ _ _ _) $$ [Hw1 Hv1 Ht1]
  · isplitr; · iexact HR
    isplitl [Hw1]; · iexact Hw1
    isplitl [Hv1] <;> iassumption
  iintro Hc1
  iapply (step_copy_w m ρ K c 2 (q := 17) rfl (used_own c 17 (by decide)) rfl rfl (off9_eq1 c) _ _ rfl _ _ _ _ _ _) $$ [Hw2 Hv2 Ht2]
  · isplitr; · iexact HR
    isplitl [Hw2]; · iexact Hw2
    isplitl [Hv2] <;> iassumption
  iintro Hc2
  iapply (step_copy_w m ρ K c 3 (q := 18) rfl (used_own c 18 (by decide)) rfl rfl (off9_eq2 c) _ _ rfl _ _ _ _ _ _) $$ [Hw3 Hv3 Ht3]
  · isplitr; · iexact HR
    isplitl [Hw3]; · iexact Hw3
    isplitl [Hv3] <;> iassumption
  iintro Hc3
  rw [wp_ret]; imodintro
  iapply Hk
  isplitl [Hc0]; · iexact Hc0
  isplitl [Hc1]; · iexact Hc1
  isplitl [Hc2] <;> iassumption

end Cert.Gather

end
-- ==== Proof.Pieces.lean ====
/-
# Cutting and joining the buffers

Every buffer the kernel touches in pieces is cut into four parts, and a part into quarters. One lemma cuts or joins at
known contents, one joins at some contents; the rest are their instances.
-/
module

public import proofs.«01_k».proof.Proof.Access

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

section General

variable (ℓ : Loc nD τ sig) (S : Finset (Idx ℓ)) (P : Fin 4 → Finset (Idx ℓ)) (hS : ∀ i, i ∈ S ↔ ∃ t, i ∈ P t)
  (hd : ∀ t t' : Fin 4, t ≠ t' → ∀ i, i ∈ P t → i ∉ P t') (a b d e : Fin 4) (hp : (Finset.univ : Finset (Fin 4)) = [a, b, d, e].toFinset) (hn : [a, b, d, e].Nodup)

include hS hd hp hn

omit [FloatOps F] in
/-- Four disjoint parts, in any order, make the whole. -/
theorem cut4 (f : Buf (Elt F) ℓ) :
    (ℓ ↦[S]{fullShare} f : sProp 𝕄) = iprop((ℓ ↦[P a]{fullShare} f) ∗ (ℓ ↦[P b]{fullShare} f) ∗ (ℓ ↦[P d]{fullShare} f) ∗ ℓ ↦[P e]{fullShare} f) := by
  have hS' : S = Finset.univ.biUnion P := by
    ext i; rw [hS i]; simp only [Finset.mem_biUnion, Finset.mem_univ, _root_.true_and]
  rw [hS', pointsTo_biUnion _ _ (fun t _ t' _ h => Finset.disjoint_left.mpr fun i => hd t t' h i), bigSep_eq_bigSepL_of_eq [a, b, d, e] hp hn]
  rfl

omit [FloatOps F] in
/-- A whole at some contents is four parts, each at some contents, -/
theorem cut4_any : iprop(∃ f : Buf (Elt F) ℓ, ℓ ↦[S]{fullShare} f)
    ⊢ (iprop((∃ f : Buf (Elt F) ℓ, ℓ ↦[P a]{fullShare} f) ∗ (∃ f : Buf (Elt F) ℓ, ℓ ↦[P b]{fullShare} f)
      ∗ (∃ f : Buf (Elt F) ℓ, ℓ ↦[P d]{fullShare} f) ∗ ∃ f : Buf (Elt F) ℓ, ℓ ↦[P e]{fullShare} f) : sProp 𝕄) := by
  iintro ⟨%f, H⟩
  ihave H := (Entails.of_eq (cut4 ℓ S P hS hd a b d e hp hn f)) $$ H
  icases H with ⟨H1, H2, H3, H4⟩
  isplitl [H1]; · iexists f; iexact H1
  isplitl [H2]; · iexists f; iexact H2
  isplitl [H3]; · iexists f; iexact H3
  iexists f; iexact H4

/-- and the other way round. -/
theorem join4_any : (iprop((∃ f : Buf (Elt F) ℓ, ℓ ↦[P a]{fullShare} f) ∗ (∃ f : Buf (Elt F) ℓ, ℓ ↦[P b]{fullShare} f)
      ∗ (∃ f : Buf (Elt F) ℓ, ℓ ↦[P d]{fullShare} f) ∗ ∃ f : Buf (Elt F) ℓ, ℓ ↦[P e]{fullShare} f) : sProp 𝕄)
    ⊢ iprop(∃ f : Buf (Elt F) ℓ, ℓ ↦[S]{fullShare} f) := by
  have h : (iprop((∃ f : Buf (Elt F) ℓ, ℓ ↦[P a]{fullShare} f) ∗ (∃ f : Buf (Elt F) ℓ, ℓ ↦[P b]{fullShare} f)
      ∗ (∃ f : Buf (Elt F) ℓ, ℓ ↦[P d]{fullShare} f) ∗ ∃ f : Buf (Elt F) ℓ, ℓ ↦[P e]{fullShare} f) : sProp 𝕄)
      = bigSep Finset.univ fun t : Fin 4 => iprop(∃ f : Buf (Elt F) ℓ, ℓ ↦[P t]{fullShare} f) := by
    rw [bigSep_eq_bigSepL_of_eq [a, b, d, e] hp hn]
    rfl
  iintro H
  ihave H := (Entails.of_eq h) $$ H
  ihave H := (BI.bigSep_exists_pi _ _) $$ H
  icases H with ⟨%fs, H⟩
  ihave H := (pointsTo_biUnion_join Finset.univ P fs (fs a) (fun t _ t' _ h => Finset.disjoint_left.mpr fun i => hd t t' h i)) $$ H
  icases H with ⟨%g, -, H⟩
  have hS' : S = Finset.univ.biUnion P := by
    ext i; rw [hS i]; simp only [Finset.mem_biUnion, Finset.mem_univ, _root_.true_and]
  iexists g
  rw [hS']; iexact H

end General

/-! ## The bands -/

/-- The bands of `l` rows from row `a` on make the band of `4 * l` rows, -/
theorem band {m n a l : ℕ} (hl : 0 < l) (i : (⟨2, ![m, n]⟩ : Shape).Idx) :
    i ∈ rows (m := m) (n := n) a (4 * l) ↔ ∃ h : Fin 4, i ∈ rows (m := m) (n := n) (a + l * h.val) l := by
  rw [rows_biUnion (k := 4) hl]; simp only [Finset.mem_biUnion, Finset.mem_univ, _root_.true_and]
theorem band_apart {m n a l : ℕ} (t t' : Fin 4) (h : t ≠ t') (i : (⟨2, ![m, n]⟩ : Shape).Idx)
    (hi : i ∈ rows (m := m) (n := n) (a + l * t.val) l) : i ∉ rows (m := m) (n := n) (a + l * t'.val) l :=
  Finset.disjoint_left.mp (rows_disjoint t t' h) hi
/-- a matrix of `4 * l` rows included. -/
theorem bands {n l : ℕ} (hl : 0 < l) (i : (⟨2, ![4 * l, n]⟩ : Shape).Idx) : ∃ h : Fin 4, i ∈ rows (m := 4 * l) (n := n) (l * h.val) l := by
  have h := (band (a := 0) hl i).mp (by rw [rows_univ]; exact Finset.mem_univ i)
  simpa only [Nat.zero_add] using h
theorem bands_apart {n l : ℕ} (t t' : Fin 4) (h : t ≠ t') (i : (⟨2, ![4 * l, n]⟩ : Shape).Idx)
    (hi : i ∈ rows (m := 4 * l) (n := n) (l * t.val) l) : i ∉ rows (m := 4 * l) (n := n) (l * t'.val) l := by
  have h := band_apart (a := 0) (m := 4 * l) (n := n) (l := l) t t' h i
  simp only [Nat.zero_add] at h
  exact h hi
/-- The slots make the stack, -/
theorem slots {m n : ℕ} (i : (⟨3, ![4, m, n]⟩ : Shape).Idx) : ∃ j : Fin 4, i ∈ slab (p := 4) (m := m) (n := n) j.val 0 m := by
  have h : i ∈ (Finset.univ : Finset (⟨3, ![4, m, n]⟩ : Shape).Idx) := Finset.mem_univ i
  rw [slab_univ] at h
  simpa only [Finset.mem_biUnion, Finset.mem_univ, _root_.true_and] using h
theorem slots_apart {m n : ℕ} (t t' : Fin 4) (h : t ≠ t') (i : (⟨3, ![4, m, n]⟩ : Shape).Idx)
    (hi : i ∈ slab (p := 4) (m := m) (n := n) t.val 0 m) : i ∉ slab (p := 4) (m := m) (n := n) t'.val 0 m :=
  Finset.disjoint_left.mp (slab_apart t t' h) hi
/-- and the quarters of a slot the slot. -/
theorem slot_quarters {p m n j : ℕ} (i : (⟨3, ![p, m, n]⟩ : Shape).Idx) :
    i ∈ slab (p := p) (m := m) (n := n) j 0 512 ↔ ∃ h : Fin 4, i ∈ slab (p := p) (m := m) (n := n) j (128 * h.val) 128 := by
  have h := slab_biUnion (p := p) (m := m) (n := n) (j := j) (a := 0) (l := 128) (k := 4) (by decide)
  simp only [Nat.zero_add] at h
  rw [show (512 : ℕ) = 4 * 128 from rfl, h]; simp only [Finset.mem_biUnion, Finset.mem_univ, _root_.true_and]
theorem slot_quarters_apart {p m n j : ℕ} (t t' : Fin 4) (h : t ≠ t') (i : (⟨3, ![p, m, n]⟩ : Shape).Idx)
    (hi : i ∈ slab (p := p) (m := m) (n := n) j (128 * t.val) 128) : i ∉ slab (p := p) (m := m) (n := n) j (128 * t'.val) 128 := by
  have h := slab_disjoint (p := p) (m := m) (n := n) (j := j) (a := 0) (l := 128) t t' h
  simp only [Nat.zero_add] at h
  exact Finset.disjoint_left.mp h hi

omit [FloatOps F] in
theorem whole_iff {ℓ : Loc nD τ sig} {P : Fin 4 → Finset (Idx ℓ)} (h : ∀ i, ∃ t, i ∈ P t) (i : Idx ℓ) :
    i ∈ (Finset.univ : Finset (Idx ℓ)) ↔ ∃ t, i ∈ P t := ⟨fun _ => h i, fun _ => Finset.mem_univ i⟩

/-- The four devices, counted from `c`. -/
theorem round1 (c : Dev nD) : (Finset.univ : Finset (Fin 4)) = [c, up 1 c, up 2 c, up 3 c].toFinset ∧ [c, up 1 c, up 2 c, up 3 c].Nodup := by
  revert c; decide
theorem round2 (c : Dev nD) : (Finset.univ : Finset (Fin 4)) = [c, up 3 c, up 1 c, up 2 c].toFinset ∧ [c, up 3 c, up 1 c, up 2 c].Nodup := by
  revert c; decide
theorem round0 : (Finset.univ : Finset (Fin 4)) = [0, 1, 2, 3].toFinset ∧ ([0, 1, 2, 3] : List (Fin 4)).Nodup := by decide

/-! ## The buffers -/

/-- The staged block of `x`: its own rows, the neighbours', and the opposite device's in quarters. -/
theorem x_cut : (((c : Thread nD τ).loc cc0_stg0_0) ↦{fullShare} xIn m ρ c : sProp 𝕄)
    = iprop(xP m ρ c (512 * c.val) 512 ∗ xP m ρ c (512 * (up 1 c).val) 512
      ∗ (xP m ρ c (512 * (up 2 c).val + 128 * 0) 128 ∗ xP m ρ c (512 * (up 2 c).val + 128 * 1) 128
        ∗ xP m ρ c (512 * (up 2 c).val + 128 * 2) 128 ∗ xP m ρ c (512 * (up 2 c).val + 128 * 3) 128)
      ∗ xP m ρ c (512 * (up 3 c).val) 512) := by
  unfold xP
  rw [cut4 ((c : Thread nD τ).loc cc0_stg0_0) Finset.univ (fun j : Fin 4 => rows (m := 2048) (n := 512) (512 * j.val) 512) (whole_iff (bands (l := 512) (by decide))) (bands_apart (l := 512)) _ _ _ _ (round1 c).1 (round1 c).2]
  refine congrArg (fun X => iprop(_ ∗ _ ∗ X ∗ _)) ?_
  exact cut4 ((c : Thread nD τ).loc cc0_stg0_0) _ (fun h : Fin 4 => rows (m := 2048) (n := 512) (512 * (up 2 c).val + 128 * h.val) 128) (band (l := 128) (by decide)) band_apart _ _ _ _ round0.1 round0.2 _

/-- The gather buffer: its slots. -/
theorem g_cut : iprop(∃ f : Buf (Elt F) ((c : Thread nD τ).loc cc0_scratch0), ((c : Thread nD τ).loc cc0_scratch0) ↦{fullShare} f)
    ⊢ (iprop(gAny c c 0 512 ∗ gAny c (up 1 c) 0 512 ∗ gAny c (up 2 c) 0 512 ∗ gAny c (up 3 c) 0 512) : sProp 𝕄) := by
  unfold gAny
  exact cut4_any ((c : Thread nD τ).loc cc0_scratch0) Finset.univ (fun j : Fin 4 => slab (p := 4) (m := 512) (n := 512) j.val 0 512) (whole_iff slots) slots_apart _ _ _ _ (round1 c).1 (round1 c).2
/-- A slot: its quarters. -/
theorem slot_cut (n : Dev nD) : gAny n c 0 512
    ⊢ (iprop(gAny n c (128 * 0) 128 ∗ gAny n c (128 * 1) 128 ∗ gAny n c (128 * 2) 128 ∗ gAny n c (128 * 3) 128) : sProp 𝕄) := by
  unfold gAny
  exact cut4_any ((n : Thread nD τ).loc cc0_scratch0) (slab (p := 4) (m := 512) (n := 512) c.val 0 512) (fun h : Fin 4 => slab (p := 4) (m := 512) (n := 512) c.val (128 * h.val) 128) slot_quarters slot_quarters_apart 0 1 2 3 round0.1 round0.2
theorem g_forget (j : Dev nD) (a len : ℕ) : gP m ρ c j a len ⊢ gAny c j a len := by
  unfold gP gAny; iintro H; iexists _; iexact H
/-- The gather buffer put together again. -/
theorem g_join : iprop(gAny c c 0 512 ∗ gP m ρ c (up 1 c) 0 512
      ∗ (gP m ρ c (up 2 c) (128 * 0) 128 ∗ gP m ρ c (up 2 c) (128 * 1) 128 ∗ gP m ρ c (up 2 c) (128 * 2) 128 ∗ gP m ρ c (up 2 c) (128 * 3) 128)
      ∗ gP m ρ c (up 3 c) 0 512)
    ⊢ iprop(∃ f : Buf (Elt F) ((c : Thread nD τ).loc cc0_scratch0), ((c : Thread nD τ).loc cc0_scratch0) ↦{fullShare} f) := by
  refine BIBase.Entails.trans ?_ (join4_any ((c : Thread nD τ).loc cc0_scratch0) Finset.univ (fun j : Fin 4 => slab (p := 4) (m := 512) (n := 512) j.val 0 512) (whole_iff slots) slots_apart _ _ _ _ (round1 c).1 (round1 c).2)
  refine BIClass.sep_mono Entails.rfl (BIClass.sep_mono (g_forget m ρ c _ _ _) (BIClass.sep_mono ?_ (g_forget m ρ c _ _ _)))
  refine BIBase.Entails.trans ?_ (join4_any ((c : Thread nD τ).loc cc0_scratch0) _ (fun h : Fin 4 => slab (p := 4) (m := 512) (n := 512) (up 2 c).val (128 * h.val) 128) slot_quarters slot_quarters_apart _ _ _ _ round0.1 round0.2)
  exact BIClass.sep_mono (g_forget m ρ c _ _ _) (BIClass.sep_mono (g_forget m ρ c _ _ _) (BIClass.sep_mono (g_forget m ρ c _ _ _) (g_forget m ρ c _ _ _)))

/-- The buffer of copies of `w`: its slots, -/
theorem v_cut : iprop(∃ f : Buf (Elt F) ((c : Thread nD τ).loc cc0_scratch1), ((c : Thread nD τ).loc cc0_scratch1) ↦{fullShare} f)
    ⊢ (iprop(vAny c 0 ∗ vAny c 1 ∗ vAny c 2 ∗ vAny c 3) : sProp 𝕄) := by
  unfold vAny
  exact cut4_any ((c : Thread nD τ).loc cc0_scratch1) Finset.univ (fun j : Fin 4 => slab (p := 4) (m := 512) (n := 2048) j.val 0 512) (whole_iff slots) slots_apart _ _ _ _ round0.1 round0.2
/-- which make it again. -/
theorem v_join : iprop(vP m c 0 ∗ vP m c 1 ∗ vP m c 2 ∗ vP m c 3)
    ⊢ iprop(∃ f : Buf (Elt F) ((c : Thread nD τ).loc cc0_scratch1), ((c : Thread nD τ).loc cc0_scratch1) ↦{fullShare} f) := by
  unfold vP
  refine (Entails.of_eq (cut4 ((c : Thread nD τ).loc cc0_scratch1) Finset.univ (fun j : Fin 4 => slab (p := 4) (m := 512) (n := 2048) j.val 0 512) (whole_iff slots) slots_apart _ _ _ _ round0.1 round0.2 _).symm).trans ?_
  iintro H; iexists _; iexact H

/-- `w`: its row blocks in the order of the copies. -/
theorem w_cut : (((c : Thread nD τ).loc main_arg1) ↦{fullShare} wIn m c : sProp 𝕄) = iprop(wP m c 0 ∗ wP m c 1 ∗ wP m c 2 ∗ wP m c 3) := by
  unfold wP
  exact cut4 ((c : Thread nD τ).loc main_arg1) Finset.univ (fun j : Fin 4 => rows (m := 2048) (n := 2048) (512 * j.val) 512) (whole_iff (bands (l := 512) (by decide))) (bands_apart (l := 512)) _ _ _ _ (round2 c).1 (round2 c).2 _

/-- The result's buffer: its quarters, before -/
theorem o_cut (f : Buf (Elt F) ((c : Thread nD τ).loc main_v1)) : (((c : Thread nD τ).loc main_v1) ↦{fullShare} f : sProp 𝕄)
    ⊢ iprop(oAny c 0 ∗ oAny c 1 ∗ oAny c 2 ∗ oAny c 3) := by
  unfold oAny
  refine BIBase.Entails.trans ?_ (cut4_any ((c : Thread nD τ).loc main_v1) Finset.univ (fun h : Fin 4 => rows (m := 512) (n := 2048) (128 * h.val) 128) (whole_iff (bands (l := 128) (by decide))) (bands_apart (l := 128)) _ _ _ _ round0.1 round0.2)
  iintro H; iexists f; iexact H
/-- and after, -/
theorem o_join : iprop(oP m ρ c 0 ∗ oP m ρ c 1 ∗ oP m ρ c 2 ∗ oP m ρ c 3) = (((c : Thread nD τ).loc main_v1) ↦{fullShare} res m ρ c : sProp 𝕄) := by
  unfold oP
  exact (cut4 ((c : Thread nD τ).loc main_v1) Finset.univ (fun h : Fin 4 => rows (m := 512) (n := 2048) (128 * h.val) 128) (whole_iff (bands (l := 128) (by decide))) (bands_apart (l := 128)) _ _ _ _ round0.1 round0.2 _).symm
/-- and the accumulator's, before the last product -/
theorem acc_split : aAll c (acc3 m ρ c) = iprop(aQ m ρ c 0 ∗ aQ m ρ c 1 ∗ aQ m ρ c 2 ∗ aQ m ρ c 3) := by
  unfold aAll aQ
  exact cut4 ((c : Thread nD τ).loc cc0_scratch2) Finset.univ (fun h : Fin 4 => rows (m := 512) (n := 2048) (128 * h.val) 128) (whole_iff (bands (l := 128) (by decide))) (bands_apart (l := 128)) _ _ _ _ round0.1 round0.2 _
/-- and after it. -/
theorem a_join : iprop(aP m ρ c 0 ∗ aP m ρ c 1 ∗ aP m ρ c 2 ∗ aP m ρ c 3)
    ⊢ iprop(∃ f : Buf (Elt F) ((c : Thread nD τ).loc cc0_scratch2), ((c : Thread nD τ).loc cc0_scratch2) ↦{fullShare} f) := by
  unfold aP
  refine (Entails.of_eq (cut4 ((c : Thread nD τ).loc cc0_scratch2) Finset.univ (fun h : Fin 4 => rows (m := 512) (n := 2048) (128 * h.val) 128) (whole_iff (bands (l := 128) (by decide))) (bands_apart (l := 128)) _ _ _ _ round0.1 round0.2 _).symm).trans ?_
  iintro H; iexists _; iexact H

end Cert.Gather

end
-- ==== Proof.Closing.lean ====
/-
# The second half of the body: products and results

The products as the blocks arrive, the quarters of the result as they are finished, and the last waits.
-/
module

public import proofs.«01_k».proof.Proof.Opening
public import proofs.«01_k».proof.Proof.Pieces

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 23 → ℕ) (c : Dev nD)

/-- A transfer under way: its credit, and the waiter's place. -/
def pend (c : Dev nD) (k : DmaSem sig) : sProp 𝕄 := iprop(crD c k ∗ atD c k)

/-- A wait for a transfer under way. -/
theorem step_pend {α : Type} {Q : α → sProp 𝕄} {k : PUnit → Prog (TpuEff nD τ sig (Elt F) Λ₀ .tc) α}
    {q q' : DmaSem sig} (hq : q' = q) (hu : Used c q) {sp sp' : Space} {s s' : Shape} {e e' : EltTy}
    (src : Memref sig .tc sp s e) (dst : Memref sig .tc sp' s' e') (hs) (hd) (hN : dst.view.dmaCredit = amt q) :
    iprop(records m ρ K ∗ dues c 0 ∗ pend c q)
      ⊢ iprop(((dues c 0 ∗ zD c q ∗ payD m ρ c q.val)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q' src dst hs hd) k) Q) := by
  unfold pend
  iintro ⟨#HR, HO, Hc, Hat⟩
  iapply (step_wait2 m ρ K c hq hu src dst hs hd hN)
  isplitr; · iexact HR
  isplitl [Hc]; · iexact Hc
  isplitl [HO] <;> iassumption

/-- The fifth part: the product of the device's own block, and the wait for the block from three places on. -/
theorem part5_sound (f : FVec F S512x2048 .f32) (v2 : BitVec 32) (Kt : BitVec 32 → sProp 𝕄) :
    iprop(records m ρ K ∗ (dues c 0 ∗ pend c 15 ∗ pend c (recvS (up 3 c)) ∗ pend c 16 ∗ xP m ρ c (512 * c.val) 512 ∗ aAll c f)
      ∗ ((dues c 0 ∗ (zD c 15 ∗ zD c (recvS (up 3 c)) ∗ zD c 16) ∗ xP m ρ c (512 * c.val) 512 ∗ (vP m c 0 ∗ wP m c 0) ∗ (vP m c 1 ∗ wP m c 1) ∗ gP m ρ c (up 3 c) 0 512 ∗ aAll c (acc1 m ρ c)) -∗ Kt (Scalar.remsi (Scalar.addi v2 3#32) 4#32)))
      ⊢ wp frame (wpE (defs₀ (F := F)) 𝒱₀ (c : Thread nD τ) none) Set.univ
          (k0_part5 xM (Memref.isWhole_whole _) wM (Memref.isWhole_whole _) oM (Memref.isWhole_whole _) gM (Memref.isWhole_whole _)
            vM (Memref.isWhole_whole _) aM (Memref.isWhole_whole _) cc0_scratch3 cc0_scratch4 cc0_scratch5 cc0_scratch6 cc0_scratch7 c v2) Kt := by
  rw [k0_part5_eq_skeleton]; unfold k0_part5_skel
  simp only [Prog.lift, Prog.bind_op, Prog.bind_ret, Prog.pure_eq_ret]
  iintro ⟨#HR, ⟨HO, Hp15, Hpr3, Hp16, Hx, Ha⟩, Hk⟩
  iapply (step_pend m ρ K c (q := 15) (rfl) (used_own c 15 (by decide)) _ _ _ _ (credit_v _ _ _ _)) $$ [HO Hp15]
  · isplitr; · iexact HR
    isplitl [HO] <;> iassumption
  iintro ⟨HO, Hz15, H⟩
  ihave H := (Entails.of_eq (show payD m ρ c (15 : DmaSem sig).val = iprop(vP m c 0 ∗ wP m c 0) from rfl)) $$ H
  icases H with ⟨Hv0, Hw0⟩
  iapply (step_load_x m ρ c (off10_eq c) _ _) $$ Hx; iintro Hx
  iapply (step_load_v m c 0 rfl _ _) $$ Hv0; iintro Hv0
  iapply (step_load_a c f _ _) $$ Ha; iintro Ha
  iapply (step_store_a c f (acc1 m ρ c) _ _ _) $$ Ha; iintro Ha
  iapply (step_pend m ρ K c (q := recvS (up 3 c)) (sem_off11_3 c) ((used_recv c).2.2.2) _ _ _ _ ((credit_g 512 _ _ _ _).trans (amt_recv _).symm)) $$ [HO Hpr3]
  · isplitr; · iexact HR
    isplitl [HO] <;> iassumption
  iintro ⟨HO, Hzr3, H⟩
  ihave Hg3 := (Entails.of_eq (payD_recv m ρ c (up 3 c))) $$ H
  iapply (step_pend m ρ K c (q := 16) (rfl) (used_own c 16 (by decide)) _ _ _ _ (credit_v _ _ _ _)) $$ [HO Hp16]
  · isplitr; · iexact HR
    isplitl [HO] <;> iassumption
  iintro ⟨HO, Hz16, H⟩
  ihave Hvw1 := (Entails.of_eq (show payD m ρ c (16 : DmaSem sig).val = iprop(vP m c 1 ∗ wP m c 1) from rfl)) $$ H
  rw [wp_ret]; imodintro
  iapply Hk
  isplitl [HO]; · iexact HO
  isplitl [Hz15 Hzr3 Hz16]
  · isplitl [Hz15]; · iexact Hz15
    isplitl [Hzr3] <;> iassumption
  isplitl [Hx]; · iexact Hx
  isplitl [Hv0 Hw0]; · isplitl [Hv0] <;> iassumption
  isplitl [Hvw1]; · iexact Hvw1
  isplitl [Hg3] <;> iassumption

/-- The sixth part: that product added, and the wait for the block from the next device. -/
theorem part6_sound (v2 v134 : BitVec 32) (Kt : (Σ' (_ : Vec F S512x2048 .f32), FVec F S512x512 .bf16) → sProp 𝕄) :
    iprop(records m ρ K ∗ (dues c 0 ∗ pend c (recvS (up 1 c)) ∗ pend c 17 ∗ gP m ρ c (up 3 c) 0 512 ∗ vP m c 1 ∗ aAll c (acc1 m ρ c))
      ∗ ((dues c 0 ∗ zD c (recvS (up 1 c)) ∗ zD c 17 ∗ gP m ρ c (up 3 c) 0 512 ∗ gP m ρ c (up 1 c) 0 512 ∗ vP m c 1 ∗ (vP m c 2 ∗ wP m c 2) ∗ aAll c (acc2 m ρ c)) -∗ Kt ⟨acc2 m ρ c, k0_pay3 (gBlk m ρ c (up 1 c))⟩))
      ⊢ wp frame (wpE (defs₀ (F := F)) 𝒱₀ (c : Thread nD τ) none) Set.univ
          (k0_part6 xM (Memref.isWhole_whole _) wM (Memref.isWhole_whole _) oM (Memref.isWhole_whole _) gM (Memref.isWhole_whole _)
            vM (Memref.isWhole_whole _) aM (Memref.isWhole_whole _) cc0_scratch3 cc0_scratch4 cc0_scratch5 cc0_scratch6 cc0_scratch7 c v2 v134) Kt := by
  rw [k0_part6_eq_skeleton]; unfold k0_part6_skel
  simp only [Prog.lift, Prog.bind_op, Prog.bind_ret, Prog.pure_eq_ret]
  iintro ⟨#HR, ⟨HO, Hpr1, Hp17, Hg3, Hv1, Ha⟩, Hk⟩
  iapply (step_load_a c (acc1 m ρ c) _ _) $$ Ha; iintro Ha
  iapply (step_load_g m ρ c (up 3 c) (off13_eq3 c) _ _) $$ Hg3; iintro Hg3
  iapply (step_load_v m c 1 rfl _ _) $$ Hv1; iintro Hv1
  iapply (step_load_a c (acc1 m ρ c) _ _) $$ Ha; iintro Ha
  iapply (step_store_a c (acc1 m ρ c) (acc2 m ρ c) _ _ _) $$ Ha; iintro Ha
  iapply (step_pend m ρ K c (q := recvS (up 1 c)) (sem_off11_1 c) ((used_recv c).2.2.1) _ _ _ _ ((credit_g 512 _ _ _ _).trans (amt_recv _).symm)) $$ [HO Hpr1]
  · isplitr; · iexact HR
    isplitl [HO] <;> iassumption
  iintro ⟨HO, Hzr1, H⟩
  ihave Hg1 := (Entails.of_eq (payD_recv m ρ c (up 1 c))) $$ H
  iapply (step_pend m ρ K c (q := 17) (rfl) (used_own c 17 (by decide)) _ _ _ _ (credit_v _ _ _ _)) $$ [HO Hp17]
  · isplitr; · iexact HR
    isplitl [HO] <;> iassumption
  iintro ⟨HO, Hz17, H⟩
  ihave Hvw2 := (Entails.of_eq (show payD m ρ c (17 : DmaSem sig).val = iprop(vP m c 2 ∗ wP m c 2) from rfl)) $$ H
  iapply (step_load_a c (acc2 m ρ c) _ _) $$ Ha; iintro Ha
  iapply (step_load_g m ρ c (up 1 c) (off13_eq1 c) _ _) $$ Hg1; iintro Hg1
  rw [wp_ret]; imodintro
  iapply Hk
  isplitl [HO]; · iexact HO
  isplitl [Hzr1]; · iexact Hzr1
  isplitl [Hz17]; · iexact Hz17
  isplitl [Hg3]; · iexact Hg3
  isplitl [Hg1]; · iexact Hg1
  isplitl [Hv1]; · iexact Hv1
  isplitl [Hvw2] <;> iassumption

/-- The seventh part: that product added, the accumulator split, and the wait for the opposite device's first quarter. -/
theorem part7_sound (v41 : BitVec 32) (Kt : (Σ' (_ : FVec F S128x2048 .f32), Vec F S128x2048 .f32) → sProp 𝕄) :
    iprop(records m ρ K ∗ (dues c 0 ∗ pend c 18 ∗ pend c 11 ∗ vP m c 2 ∗ aAll c (acc2 m ρ c))
      ∗ ((dues c 0 ∗ zD c 18 ∗ zD c 11 ∗ vP m c 2 ∗ vP m c 3 ∗ wP m c 3 ∗ gP m ρ c (up 2 c) (128 * 0) 128 ∗ aQ m ρ c 0 ∗ aQ m ρ c 1 ∗ aQ m ρ c 2 ∗ aQ m ρ c 3) -∗ Kt ⟨k0_pay5 (accQuarter m ρ c 0) (gQuarter m ρ c 0) (vBlk m c 3), accQuarter m ρ c 0⟩))
      ⊢ wp frame (wpE (defs₀ (F := F)) 𝒱₀ (c : Thread nD τ) none) Set.univ
          (k0_part7 xM (Memref.isWhole_whole _) wM (Memref.isWhole_whole _) oM (Memref.isWhole_whole _) gM (Memref.isWhole_whole _)
            vM (Memref.isWhole_whole _) aM (Memref.isWhole_whole _) cc0_scratch3 cc0_scratch4 cc0_scratch5 cc0_scratch6 cc0_scratch7 c v41 (acc2 m ρ c) (k0_pay3 (gBlk m ρ c (up 1 c)))) Kt := by
  rw [k0_part7_eq_skeleton]; unfold k0_part7_skel
  simp only [Prog.lift, Prog.bind_op, Prog.bind_ret, Prog.pure_eq_ret]
  iintro ⟨#HR, ⟨HO, Hp18, Hp11, Hv2, Ha⟩, Hk⟩
  iapply (step_load_v m c 2 rfl _ _) $$ Hv2; iintro Hv2
  iapply (step_load_a c (acc2 m ρ c) _ _) $$ Ha; iintro Ha
  iapply (step_store_a c (acc2 m ρ c) (acc3 m ρ c) _ _ _) $$ Ha; iintro Ha
  ihave Ha := (Entails.of_eq (acc_split m ρ c)) $$ Ha
  icases Ha with ⟨Ha0, Ha1, Ha2, Ha3⟩
  iapply (step_pend m ρ K c (q := 18) (rfl) (used_own c 18 (by decide)) _ _ _ _ (credit_v _ _ _ _)) $$ [HO Hp18]
  · isplitr; · iexact HR
    isplitl [HO] <;> iassumption
  iintro ⟨HO, Hz18, H⟩
  ihave H := (Entails.of_eq (show payD m ρ c (18 : DmaSem sig).val = iprop(vP m c 3 ∗ wP m c 3) from rfl)) $$ H
  icases H with ⟨Hv3, Hw3⟩
  iapply (step_pend m ρ K c (q := 11) (rfl) (used_own c 11 (by decide)) _ _ _ _ (credit_g 128 _ _ _ _)) $$ [HO Hp11]
  · isplitr; · iexact HR
    isplitl [HO] <;> iassumption
  iintro ⟨HO, Hz11, H⟩
  ihave Hq0 := (Entails.of_eq (show payD m ρ c (11 : DmaSem sig).val = gP m ρ c (up 2 c) (128 * 0) 128 from rfl)) $$ H
  iapply (step_load_aq m ρ c 0 rfl _ _) $$ Ha0; iintro Ha0
  iapply (step_load_gq m ρ c 0 (off15_eq c) _ _) $$ Hq0; iintro Hq0
  iapply (step_load_v m c 3 rfl _ _) $$ Hv3; iintro Hv3
  iapply (step_load_aq m ρ c 0 rfl _ _) $$ Ha0; iintro Ha0
  rw [wp_ret]; imodintro
  iapply Hk
  isplitl [HO]; · iexact HO
  isplitl [Hz18]; · iexact Hz18
  isplitl [Hz11]; · iexact Hz11
  isplitl [Hv2]; · iexact Hv2
  isplitl [Hv3]; · iexact Hv3
  isplitl [Hw3]; · iexact Hw3
  isplitl [Hq0]; · iexact Hq0
  isplitl [Ha0]; · iexact Ha0
  isplitl [Ha1]; · iexact Ha1
  isplitl [Ha2] <;> iassumption

/-- The eighth part: the first quarter of the result stored and sent off, the second finished. -/
theorem part8_sound (v41 : BitVec 32) (Kt : PUnit → sProp 𝕄) :
    iprop(records m ρ K ∗ (dues c 0 ∗ aQ m ρ c 0 ∗ oAny c 0 ∗ tokD c 19 ∗ pend c 12 ∗ aQ m ρ c 1 ∗ vP m c 3)
      ∗ ((dues c 0 ∗ crD c 19 ∗ zD c 12 ∗ gP m ρ c (up 2 c) (128 * 1) 128 ∗ aP m ρ c 1 ∗ vP m c 3) -∗ Kt ⟨⟩))
      ⊢ wp frame (wpE (defs₀ (F := F)) 𝒱₀ (c : Thread nD τ) none) Set.univ
          (k0_part8 xM (Memref.isWhole_whole _) wM (Memref.isWhole_whole _) oM (Memref.isWhole_whole _) gM (Memref.isWhole_whole _)
            vM (Memref.isWhole_whole _) aM (Memref.isWhole_whole _) cc0_scratch3 cc0_scratch4 cc0_scratch5 cc0_scratch6 cc0_scratch7 c v41 (k0_pay5 (accQuarter m ρ c 0) (gQuarter m ρ c 0) (vBlk m c 3)) (accQuarter m ρ c 0)) Kt := by
  rw [k0_part8_eq_skeleton]; unfold k0_part8_skel
  simp only [Prog.lift, Prog.bind_op, Prog.bind_ret, Prog.pure_eq_ret]
  iintro ⟨#HR, ⟨HO, Ha0, Ho0, Ht0, Hp12, Ha1, Hv3⟩, Hk⟩
  iapply (step_store_aq m ρ c 0 rfl (k0_pay6 (k0_pay5 (accQuarter m ρ c 0) (gQuarter m ρ c 0) (vBlk m c 3))) rfl _ _ _) $$ Ha0; iintro Ha0
  iapply (step_copy_o m ρ K c 0 (q := 19) rfl (used_own c 19 (by decide)) rfl rfl rfl _ _ rfl _ _ _ _ _) $$ [Ha0 Ho0 Ht0]
  · isplitr; · iexact HR
    isplitl [Ha0]; · iexact Ha0
    isplitl [Ho0] <;> iassumption
  iintro Hc0
  iapply (step_pend m ρ K c (q := 12) (rfl) (used_own c 12 (by decide)) _ _ _ _ (credit_g 128 _ _ _ _)) $$ [HO Hp12]
  · isplitr; · iexact HR
    isplitl [HO] <;> iassumption
  iintro ⟨HO, Hz12, H⟩
  ihave Hq1 := (Entails.of_eq (show payD m ρ c (12 : DmaSem sig).val = gP m ρ c (up 2 c) (128 * 1) 128 from rfl)) $$ H
  iapply (step_load_aq m ρ c 1 rfl _ _) $$ Ha1; iintro Ha1
  iapply (step_load_gq m ρ c 1 (off17_eq c) _ _) $$ Hq1; iintro Hq1
  iapply (step_load_v m c 3 rfl _ _) $$ Hv3; iintro Hv3
  iapply (step_load_aq m ρ c 1 rfl _ _) $$ Ha1; iintro Ha1
  iapply (step_store_aq m ρ c 1 rfl (k0_pay7 (accQuarter m ρ c 1) (gQuarter m ρ c 1) (vBlk m c 3)) rfl _ _ _) $$ Ha1; iintro Ha1
  rw [wp_ret]; imodintro
  iapply Hk
  isplitl [HO]; · iexact HO
  isplitl [Hc0]; · iexact Hc0
  isplitl [Hz12]; · iexact Hz12
  isplitl [Hq1]; · iexact Hq1
  isplitl [Ha1] <;> iassumption

/-- The ninth part: the second quarter sent off, the third finished and sent off. -/
theorem part9_sound (v41 : BitVec 32) (Kt : PUnit → sProp 𝕄) :
    iprop(records m ρ K ∗ (dues c 0 ∗ aP m ρ c 1 ∗ oAny c 1 ∗ tokD c 20 ∗ pend c 13 ∗ aQ m ρ c 2 ∗ vP m c 3 ∗ oAny c 2 ∗ tokD c 21)
      ∗ ((dues c 0 ∗ crD c 20 ∗ zD c 13 ∗ gP m ρ c (up 2 c) (128 * 2) 128 ∗ crD c 21 ∗ vP m c 3) -∗ Kt ⟨⟩))
      ⊢ wp frame (wpE (defs₀ (F := F)) 𝒱₀ (c : Thread nD τ) none) Set.univ
          (k0_part9 xM (Memref.isWhole_whole _) wM (Memref.isWhole_whole _) oM (Memref.isWhole_whole _) gM (Memref.isWhole_whole _)
            vM (Memref.isWhole_whole _) aM (Memref.isWhole_whole _) cc0_scratch3 cc0_scratch4 cc0_scratch5 cc0_scratch6 cc0_scratch7 c v41) Kt := by
  rw [k0_part9_eq_skeleton]; unfold k0_part9_skel
  simp only [Prog.lift, Prog.bind_op, Prog.bind_ret, Prog.pure_eq_ret]
  iintro ⟨#HR, ⟨HO, Ha1, Ho1, Ht1, Hp13, Ha2, Hv3, Ho2, Ht2⟩, Hk⟩
  iapply (step_copy_o m ρ K c 1 (q := 20) rfl (used_own c 20 (by decide)) rfl rfl rfl _ _ rfl _ _ _ _ _) $$ [Ha1 Ho1 Ht1]
  · isplitr; · iexact HR
    isplitl [Ha1]; · iexact Ha1
    isplitl [Ho1] <;> iassumption
  iintro Hc1
  iapply (step_pend m ρ K c (q := 13) (rfl) (used_own c 13 (by decide)) _ _ _ _ (credit_g 128 _ _ _ _)) $$ [HO Hp13]
  · isplitr; · iexact HR
    isplitl [HO] <;> iassumption
  iintro ⟨HO, Hz13, H⟩
  ihave Hq2 := (Entails.of_eq (show payD m ρ c (13 : DmaSem sig).val = gP m ρ c (up 2 c) (128 * 2) 128 from rfl)) $$ H
  iapply (step_load_aq m ρ c 2 rfl _ _) $$ Ha2; iintro Ha2
  iapply (step_load_gq m ρ c 2 (off19_eq c) _ _) $$ Hq2; iintro Hq2
  iapply (step_load_v m c 3 rfl _ _) $$ Hv3; iintro Hv3
  iapply (step_load_aq m ρ c 2 rfl _ _) $$ Ha2; iintro Ha2
  iapply (step_store_aq m ρ c 2 rfl (k0_pay8 (accQuarter m ρ c 2) (gQuarter m ρ c 2) (vBlk m c 3)) rfl _ _ _) $$ Ha2; iintro Ha2
  iapply (step_copy_o m ρ K c 2 (q := 21) rfl (used_own c 21 (by decide)) rfl rfl rfl _ _ rfl _ _ _ _ _) $$ [Ha2 Ho2 Ht2]
  · isplitr; · iexact HR
    isplitl [Ha2]; · iexact Ha2
    isplitl [Ho2] <;> iassumption
  iintro Hc2
  rw [wp_ret]; imodintro
  iapply Hk
  isplitl [HO]; · iexact HO
  isplitl [Hc1]; · iexact Hc1
  isplitl [Hz13]; · iexact Hz13
  isplitl [Hq2]; · iexact Hq2
  isplitl [Hc2] <;> iassumption

/-- The tenth part: the last quarter finished and sent off, and the waits for the first two. -/
theorem part10_sound (v41 : BitVec 32) (Kt : PUnit → sProp 𝕄) :
    iprop(records m ρ K ∗ (dues c 0 ∗ pend c 14 ∗ aQ m ρ c 3 ∗ vP m c 3 ∗ oAny c 3 ∗ tokD c 22 ∗ pend c 19 ∗ pend c 20)
      ∗ ((dues c 0 ∗ zD c 14 ∗ gP m ρ c (up 2 c) (128 * 3) 128 ∗ crD c 22 ∗ vP m c 3 ∗ zD c 19 ∗ zD c 20 ∗ (oP m ρ c 0 ∗ aP m ρ c 0) ∗ oP m ρ c 1 ∗ aP m ρ c 1) -∗ Kt ⟨⟩))
      ⊢ wp frame (wpE (defs₀ (F := F)) 𝒱₀ (c : Thread nD τ) none) Set.univ
          (k0_part10 xM (Memref.isWhole_whole _) wM (Memref.isWhole_whole _) oM (Memref.isWhole_whole _) gM (Memref.isWhole_whole _)
            vM (Memref.isWhole_whole _) aM (Memref.isWhole_whole _) cc0_scratch3 cc0_scratch4 cc0_scratch5 cc0_scratch6 cc0_scratch7 c v41) Kt := by
  rw [k0_part10_eq_skeleton]; unfold k0_part10_skel
  simp only [Prog.lift, Prog.bind_op, Prog.bind_ret, Prog.pure_eq_ret]
  iintro ⟨#HR, ⟨HO, Hp14, Ha3, Hv3, Ho3, Ht3, Hp19, Hp20⟩, Hk⟩
  iapply (step_pend m ρ K c (q := 14) (rfl) (used_own c 14 (by decide)) _ _ _ _ (credit_g 128 _ _ _ _)) $$ [HO Hp14]
  · isplitr; · iexact HR
    isplitl [HO] <;> iassumption
  iintro ⟨HO, Hz14, H⟩
  ihave Hq3 := (Entails.of_eq (show payD m ρ c (14 : DmaSem sig).val = gP m ρ c (up 2 c) (128 * 3) 128 from rfl)) $$ H
  iapply (step_load_aq m ρ c 3 rfl _ _) $$ Ha3; iintro Ha3
  iapply (step_load_gq m ρ c 3 (off21_eq c) _ _) $$ Hq3; iintro Hq3
  iapply (step_load_v m c 3 rfl _ _) $$ Hv3; iintro Hv3
  iapply (step_load_aq m ρ c 3 rfl _ _) $$ Ha3; iintro Ha3
  iapply (step_store_aq m ρ c 3 rfl (k0_pay9 (accQuarter m ρ c 3) (gQuarter m ρ c 3) (vBlk m c 3)) rfl _ _ _) $$ Ha3; iintro Ha3
  iapply (step_copy_o m ρ K c 3 (q := 22) rfl (used_own c 22 (by decide)) rfl rfl rfl _ _ rfl _ _ _ _ _) $$ [Ha3 Ho3 Ht3]
  · isplitr; · iexact HR
    isplitl [Ha3]; · iexact Ha3
    isplitl [Ho3] <;> iassumption
  iintro Hc3
  iapply (step_pend m ρ K c (q := 19) (rfl) (used_own c 19 (by decide)) _ _ _ _ (credit_o _ _ _)) $$ [HO Hp19]
  · isplitr; · iexact HR
    isplitl [HO] <;> iassumption
  iintro ⟨HO, Hz19, H⟩
  ihave Hr0 := (Entails.of_eq (show payD m ρ c (19 : DmaSem sig).val = iprop(oP m ρ c 0 ∗ aP m ρ c 0) from rfl)) $$ H
  iapply (step_pend m ρ K c (q := 20) (rfl) (used_own c 20 (by decide)) _ _ _ _ (credit_o _ _ _)) $$ [HO Hp20]
  · isplitr; · iexact HR
    isplitl [HO] <;> iassumption
  iintro ⟨HO, Hz20, H⟩
  ihave Hr1 := (Entails.of_eq (show payD m ρ c (20 : DmaSem sig).val = iprop(oP m ρ c 1 ∗ aP m ρ c 1) from rfl)) $$ H
  rw [wp_ret]; imodintro
  iapply Hk
  isplitl [HO]; · iexact HO
  isplitl [Hz14]; · iexact Hz14
  isplitl [Hq3]; · iexact Hq3
  isplitl [Hc3]; · iexact Hc3
  isplitl [Hv3]; · iexact Hv3
  isplitl [Hz19]; · iexact Hz19
  isplitl [Hz20]; · iexact Hz20
  isplitl [Hr0] <;> iassumption

/-- The eleventh part: the waits for the last two quarters of the result and for the first three transfers. -/
theorem part11_sound (Kt : PUnit → sProp 𝕄) :
    iprop(records m ρ K ∗ (dues c 0 ∗ pend c 21 ∗ pend c 22 ∗ pend c 1 ∗ pend c 2 ∗ pend c 3)
      ∗ ((dues c 0 ∗ zD c 21 ∗ zD c 22 ∗ zD c 1 ∗ zD c 2 ∗ zD c 3 ∗ (oP m ρ c 2 ∗ aP m ρ c 2) ∗ (oP m ρ c 3 ∗ aP m ρ c 3)
          ∗ xP m ρ c (512 * (up 1 c).val) 512 ∗ xP m ρ c (512 * (up 3 c).val) 512 ∗ xP m ρ c (512 * (up 2 c).val + 128 * 0) 128) -∗ Kt ⟨⟩))
      ⊢ wp frame (wpE (defs₀ (F := F)) 𝒱₀ (c : Thread nD τ) none) Set.univ
          (k0_part11 xM (Memref.isWhole_whole _) wM (Memref.isWhole_whole _) oM (Memref.isWhole_whole _) gM (Memref.isWhole_whole _)
            vM (Memref.isWhole_whole _) aM (Memref.isWhole_whole _) cc0_scratch3 cc0_scratch4 cc0_scratch5 cc0_scratch6 cc0_scratch7 c) Kt := by
  rw [k0_part11_eq_skeleton]; unfold k0_part11_skel
  simp only [Prog.lift, Prog.bind_op, Prog.bind_ret, Prog.pure_eq_ret]
  iintro ⟨#HR, ⟨HO, Hp21, Hp22, Hp1, Hp2, Hp3⟩, Hk⟩
  iapply (step_pend m ρ K c (q := 21) (rfl) (used_own c 21 (by decide)) _ _ _ _ (credit_o _ _ _)) $$ [HO Hp21]
  · isplitr; · iexact HR
    isplitl [HO] <;> iassumption
  iintro ⟨HO, Hz21, H⟩
  ihave Hr2 := (Entails.of_eq (show payD m ρ c (21 : DmaSem sig).val = iprop(oP m ρ c 2 ∗ aP m ρ c 2) from rfl)) $$ H
  iapply (step_pend m ρ K c (q := 22) (rfl) (used_own c 22 (by decide)) _ _ _ _ (credit_o _ _ _)) $$ [HO Hp22]
  · isplitr; · iexact HR
    isplitl [HO] <;> iassumption
  iintro ⟨HO, Hz22, H⟩
  ihave Hr3 := (Entails.of_eq (show payD m ρ c (22 : DmaSem sig).val = iprop(oP m ρ c 3 ∗ aP m ρ c 3) from rfl)) $$ H
  iapply (step_pend m ρ K c (q := 1) (rfl) (used_own c 1 (by decide)) _ _ _ _ (credit_x 512 _ _ _)) $$ [HO Hp1]
  · isplitr; · iexact HR
    isplitl [HO] <;> iassumption
  iintro ⟨HO, Hz1, H⟩
  ihave Hx1 := (Entails.of_eq (show payD m ρ c (1 : DmaSem sig).val = xP m ρ c (512 * (up 1 c).val) 512 from rfl)) $$ H
  iapply (step_pend m ρ K c (q := 2) (rfl) (used_own c 2 (by decide)) _ _ _ _ (credit_x 512 _ _ _)) $$ [HO Hp2]
  · isplitr; · iexact HR
    isplitl [HO] <;> iassumption
  iintro ⟨HO, Hz2, H⟩
  ihave Hx2 := (Entails.of_eq (show payD m ρ c (2 : DmaSem sig).val = xP m ρ c (512 * (up 3 c).val) 512 from rfl)) $$ H
  iapply (step_pend m ρ K c (q := 3) (rfl) (used_own c 3 (by decide)) _ _ _ _ (credit_x 128 _ _ _)) $$ [HO Hp3]
  · isplitr; · iexact HR
    isplitl [HO] <;> iassumption
  iintro ⟨HO, Hz3, H⟩
  ihave Hx3 := (Entails.of_eq (show payD m ρ c (3 : DmaSem sig).val = xP m ρ c (512 * (up 2 c).val + 128 * 0) 128 from rfl)) $$ H
  rw [wp_ret]; imodintro
  iapply Hk
  isplitl [HO]; · iexact HO
  isplitl [Hz21]; · iexact Hz21
  isplitl [Hz22]; · iexact Hz22
  isplitl [Hz1]; · iexact Hz1
  isplitl [Hz2]; · iexact Hz2
  isplitl [Hz3]; · iexact Hz3
  isplitl [Hr2]; · iexact Hr2
  isplitl [Hr3]; · iexact Hr3
  isplitl [Hx1]; · iexact Hx1
  isplitl [Hx2] <;> iassumption

end Cert.Gather

end
-- ==== Proof.Body.lean ====
/-
# The body as a whole

What a device starts from and what it ends with; the eleven parts put together.
-/
module

public import proofs.«01_k».proof.Proof.Closing

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 23 → ℕ) (c : Dev nD)

/-! ## A device's own semaphores, and the raises it makes -/

/-- One thing for each of a device's own 22 semaphores. -/
def own (c : Dev nD) (Φ : GSem nD τ sig → sProp 𝕄) : sProp 𝕄 :=
  iprop(Φ (dcell c 1) ∗ Φ (dcell c 2) ∗ Φ (dcell c 3) ∗ Φ (dcell c 4) ∗ Φ (dcell c 5) ∗ Φ (dcell c 6)
    ∗ Φ (dcell c (recvS c)) ∗ Φ (dcell c (recvS (up 1 c))) ∗ Φ (dcell c (recvS (up 2 c))) ∗ Φ (dcell c (recvS (up 3 c)))
    ∗ Φ (dcell c 11) ∗ Φ (dcell c 12) ∗ Φ (dcell c 13) ∗ Φ (dcell c 14)
    ∗ Φ (dcell c 15) ∗ Φ (dcell c 16) ∗ Φ (dcell c 17) ∗ Φ (dcell c 18)
    ∗ Φ (dcell c 19) ∗ Φ (dcell c 20) ∗ Φ (dcell c 21) ∗ Φ (dcell c 22))

/-- The rights to the raises that device `c` makes: the three barriers, the blocks and quarters on the other devices, and its own. -/
def rights (c : Dev nD) : sProp 𝕄 :=
  iprop((dutyTok ER (bar (up 1 c)) 0 c ∗ dutyTok ER (bar (up 2 c)) 0 c ∗ dutyTok ER (bar (up 3 c)) 0 c)
    ∗ (tokD (up 1 c) (recvS c) ∗ tokD (up 3 c) (recvS c))
    ∗ (tokD (up 2 c) 11 ∗ tokD (up 2 c) 12 ∗ tokD (up 2 c) 13 ∗ tokD (up 2 c) 14)
    ∗ (tokD c 1 ∗ tokD c 2 ∗ tokD c 3 ∗ tokD c 4 ∗ tokD c 5 ∗ tokD c 6)
    ∗ (tokD c 15 ∗ tokD c 16 ∗ tokD c 17 ∗ tokD c 18)
    ∗ tokD c 19 ∗ tokD c 20 ∗ tokD c 21 ∗ tokD c 22)

/-- The credits of the raises that the other devices make on device `c`. -/
def credits (c : Dev nD) : sProp 𝕄 :=
  iprop(cred (tallyAt (bar c) () 3) ∗ crD c (recvS (up 1 c)) ∗ crD c (recvS (up 3 c)) ∗ crD c 11 ∗ crD c 12 ∗ crD c 13 ∗ crD c 14)

/-- The scratch buffers at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What device `c`'s body starts from beside the records and what it owes, -/
def before (c : Dev nD) : sProp 𝕄 :=
  iprop(levAts L lv ∗ credits c ∗ (atPos ER (bar c) 0 ∅ 0 ∗ own c fun g => atPos ER g 0 ∅ 0) ∗ rights c
    ∗ scratch c ∗ (((c : Thread nD τ).loc cc0_stg0_0) ↦{fullShare} xIn m ρ c)
    ∗ (((c : Thread nD τ).loc main_arg1) ↦{fullShare} wIn m c)
    ∗ ∃ f : Buf (Elt F) ((c : Thread nD τ).loc main_v1), ((c : Thread nD τ).loc main_v1) ↦{fullShare} f)

/-- and what it ends with. -/
def after (c : Dev nD) : sProp 𝕄 :=
  iprop((semVal (bar c) 0 ∗ own c fun g => semVal g 0)
    ∗ scratch c ∗ (((c : Thread nD τ).loc cc0_stg0_0) ↦{fullShare} xIn m ρ c)
    ∗ (((c : Thread nD τ).loc main_arg1) ↦{fullShare} wIn m c)
    ∗ ((c : Thread nD τ).loc main_v1) ↦{fullShare} res m ρ c)

/-- On no device is the receive semaphore of its own slot, or of the opposite device's, raised. -/
theorem unused_recv (c : Dev nD) : ¬ Used c (recvS c) ∧ ¬ Used c (recvS (up 2 c)) := by revert c; decide
theorem recv_ne (j : Dev nD) : (recvS j).val ≠ 0 := by revert j; decide

set_option maxHeartbeats 1600000 in
/-- From `before` the body leads to `after`. -/
theorem body_sound (Kt : PUnit → sProp 𝕄) :
    iprop(records m ρ K ∗ before m ρ c ∗ dues c (owe9 c) ∗ ((dues c 0 ∗ after m ρ c) -∗ Kt ⟨⟩))
      ⊢ wp frame (wpE (defs₀ (F := F)) 𝒱₀ (c : Thread nD τ) none) Set.univ
          (cc0_body xM (Memref.isWhole_whole _) wM (Memref.isWhole_whole _) oM (Memref.isWhole_whole _) gM (Memref.isWhole_whole _)
            vM (Memref.isWhole_whole _) aM (Memref.isWhole_whole _) cc0_scratch3 cc0_scratch4 cc0_scratch5 cc0_scratch6 cc0_scratch7) Kt := by
  rw [cc0_body_eq_skeleton]; unfold cc0_body_skel
  simp only [Prog.lift, Prog.bind_op, Prog.bind_ret, Prog.pure_eq_ret, wp_bind]
  unfold before credits own rights scratch
  iintro ⟨#HR, ⟨#Hlev, ⟨HcB, Hcr1, Hcr3, Hc11, Hc12, Hc13, Hc14⟩,
    ⟨HaB, Hat1, Hat2, Hat3, Hat4, Hat5, Hat6, Hatr0, Hatr1, Hatr2, Hatr3, Hat11, Hat12, Hat13, Hat14, Hat15, Hat16, Hat17, Hat18, Hat19, Hat20, Hat21, Hat22⟩,
    ⟨HtB, ⟨Htr1, Htr3⟩, ⟨Hd0, Hd1, Hd2, Hd3⟩, ⟨Ht1, Ht2, Ht3, Ht4, Ht5, Ht6⟩, ⟨Ht15, Ht16, Ht17, Ht18⟩, Ht19, Ht20, Ht21, Ht22⟩,
    ⟨Hg, Hv, ⟨%fa, Ha⟩⟩, Hx, Hw, ⟨%fo, Ho⟩⟩, HO, Hk⟩
  ihave Hx := (Entails.of_eq (x_cut m ρ c)) $$ Hx
  icases Hx with ⟨Hx0, Hx1, ⟨Hq0, Hq1, Hq2, Hq3⟩, Hx3⟩
  ihave Hg := (g_cut c) $$ Hg
  icases Hg with ⟨Hg0, Hg1, Hg2, Hg3⟩
  ihave Hv := (v_cut c) $$ Hv
  icases Hv with ⟨Hv0, Hv1, Hv2, Hv3⟩
  ihave Hw := (Entails.of_eq (w_cut m c)) $$ Hw
  icases Hw with ⟨Hw0, Hw1, Hw2, Hw3⟩
  ihave Ho := (o_cut c fo) $$ Ho
  icases Ho with ⟨Ho0, Ho1, Ho2, Ho3⟩
  ihave Ha := (Entails.of_eq (show (((c : Thread nD τ).loc cc0_scratch2) ↦{fullShare} fa : sProp 𝕄) = aAll c fa from rfl)) $$ Ha
  iapply (part1_sound m ρ K c _)
  isplitr; · iexact HR
  isplitl [HcB HO HaB HtB Hg1 Hg2 Hg3]
  · isplitr; · iexact Hlev
    isplitl [HcB]; · iexact HcB
    isplitl [HO]; · iexact HO
    isplitl [HaB]; · iexact HaB
    isplitl [HtB]; · iexact HtB
    isplitl [Hg1]; · iexact Hg1
    isplitl [Hg2]; · iexact Hg2
    iexact Hg3
  iintro ⟨HO, HzB, Hn1, Hn2, Hn3⟩
  ihave Hn2 := (slot_cut c (up 2 c)) $$ Hn2
  icases Hn2 with ⟨Hm0, Hm1, Hm2, Hm3⟩
  iapply (part2_sound m ρ K c _ _)
  isplitr; · iexact HR
  isplitl [HO Hx1 Hn1 Ht1 Htr1 Hx3 Hn3 Ht2 Htr3 Hq0 Hm0 Ht3 Hd0]
  · isplitl [HO]; · iexact HO
    isplitl [Hx1 Hn1 Ht1 Htr1]
    · isplitl [Hx1]; · iexact Hx1
      isplitl [Hn1]; · iexact Hn1
      isplitl [Ht1]; · iexact Ht1
      iexact Htr1
    isplitl [Hx3 Hn3 Ht2 Htr3]
    · isplitl [Hx3]; · iexact Hx3
      isplitl [Hn3]; · iexact Hn3
      isplitl [Ht2]; · iexact Ht2
      iexact Htr3
    isplitl [Hq0]; · iexact Hq0
    isplitl [Hm0]; · iexact Hm0
    isplitl [Ht3]; · iexact Ht3
    iexact Hd0
  iintro ⟨HO, Hc1, Hc2, Hc3⟩
  iapply (part3_sound m ρ K c _ _ _)
  isplitr; · iexact HR
  isplitl [HO Hq1 Hm1 Ht4 Hd1 Hq2 Hm2 Ht5 Hd2 Hq3 Hm3 Ht6 Hd3]
  · isplitl [HO]; · iexact HO
    isplitl [Hq1 Hm1 Ht4 Hd1]
    · isplitl [Hq1]; · iexact Hq1
      isplitl [Hm1]; · iexact Hm1
      isplitl [Ht4]; · iexact Ht4
      iexact Hd1
    isplitl [Hq2 Hm2 Ht5 Hd2]
    · isplitl [Hq2]; · iexact Hq2
      isplitl [Hm2]; · iexact Hm2
      isplitl [Ht5]; · iexact Ht5
      iexact Hd2
    isplitl [Hq3]; · iexact Hq3
    isplitl [Hm3]; · iexact Hm3
    isplitl [Ht6]; · iexact Ht6
    iexact Hd3
  iintro ⟨HO, Hc4, Hc5, Hc6⟩
  iapply (part4_sound m ρ K c _ _)
  isplitr; · iexact HR
  isplitl [Hw0 Hv0 Ht15 Hw1 Hv1 Ht16 Hw2 Hv2 Ht17 Hw3 Hv3 Ht18]
  · isplitl [Hw0 Hv0 Ht15]
    · isplitl [Hw0]; · iexact Hw0
      isplitl [Hv0]; · iexact Hv0
      iexact Ht15
    isplitl [Hw1 Hv1 Ht16]
    · isplitl [Hw1]; · iexact Hw1
      isplitl [Hv1]; · iexact Hv1
      iexact Ht16
    isplitl [Hw2 Hv2 Ht17]
    · isplitl [Hw2]; · iexact Hw2
      isplitl [Hv2]; · iexact Hv2
      iexact Ht17
    isplitl [Hw3]; · iexact Hw3
    isplitl [Hv3]; · iexact Hv3
    iexact Ht18
  iintro ⟨Hc15, Hc16, Hc17, Hc18⟩
  iapply (part5_sound m ρ K c fa _ _)
  isplitr; · iexact HR
  isplitl [HO Hc15 Hat15 Hcr3 Hatr3 Hc16 Hat16 Hx0 Ha]
  · unfold pend
    isplitl [HO]; · iexact HO
    isplitl [Hc15 Hat15]
    · isplitl [Hc15]; · iexact Hc15
      iexact Hat15
    isplitl [Hcr3 Hatr3]
    · isplitl [Hcr3]; · iexact Hcr3
      iexact Hatr3
    isplitl [Hc16 Hat16]
    · isplitl [Hc16]; · iexact Hc16
      iexact Hat16
    isplitl [Hx0]; · iexact Hx0
    iexact Ha
  iintro ⟨HO, ⟨Hz15, Hzr3, Hz16⟩, Hx0, ⟨Hv0, Hw0⟩, ⟨Hv1, Hw1⟩, Hs3, Ha⟩
  iapply (part6_sound m ρ K c _ _ _)
  isplitr; · iexact HR
  isplitl [HO Hcr1 Hatr1 Hc17 Hat17 Hs3 Hv1 Ha]
  · unfold pend
    isplitl [HO]; · iexact HO
    isplitl [Hcr1 Hatr1]
    · isplitl [Hcr1]; · iexact Hcr1
      iexact Hatr1
    isplitl [Hc17 Hat17]
    · isplitl [Hc17]; · iexact Hc17
      iexact Hat17
    isplitl [Hs3]; · iexact Hs3
    isplitl [Hv1]; · iexact Hv1
    iexact Ha
  iintro ⟨HO, Hzr1, Hz17, Hs3, Hs1, Hv1, ⟨Hv2, Hw2⟩, Ha⟩
  iapply (part7_sound m ρ K c _ _)
  isplitr; · iexact HR
  isplitl [HO Hc18 Hat18 Hc11 Hat11 Hv2 Ha]
  · unfold pend
    isplitl [HO]; · iexact HO
    isplitl [Hc18 Hat18]
    · isplitl [Hc18]; · iexact Hc18
      iexact Hat18
    isplitl [Hc11 Hat11]
    · isplitl [Hc11]; · iexact Hc11
      iexact Hat11
    isplitl [Hv2]; · iexact Hv2
    iexact Ha
  iintro ⟨HO, Hz18, Hz11, Hv2, Hv3, Hw3, Hs20, Ha0, Ha1, Ha2, Ha3⟩
  iapply (part8_sound m ρ K c _ _)
  isplitr; · iexact HR
  isplitl [HO Ha0 Ho0 Ht19 Hc12 Hat12 Ha1 Hv3]
  · unfold pend
    isplitl [HO]; · iexact HO
    isplitl [Ha0]; · iexact Ha0
    isplitl [Ho0]; · iexact Ho0
    isplitl [Ht19]; · iexact Ht19
    isplitl [Hc12 Hat12]
    · isplitl [Hc12]; · iexact Hc12
      iexact Hat12
    isplitl [Ha1]; · iexact Ha1
    iexact Hv3
  iintro ⟨HO, Hc19, Hz12, Hs21, Ha1, Hv3⟩
  iapply (part9_sound m ρ K c _ _)
  isplitr; · iexact HR
  isplitl [HO Ha1 Ho1 Ht20 Hc13 Hat13 Ha2 Hv3 Ho2 Ht21]
  · unfold pend
    isplitl [HO]; · iexact HO
    isplitl [Ha1]; · iexact Ha1
    isplitl [Ho1]; · iexact Ho1
    isplitl [Ht20]; · iexact Ht20
    isplitl [Hc13 Hat13]
    · isplitl [Hc13]; · iexact Hc13
      iexact Hat13
    isplitl [Ha2]; · iexact Ha2
    isplitl [Hv3]; · iexact Hv3
    isplitl [Ho2]; · iexact Ho2
    iexact Ht21
  iintro ⟨HO, Hc20, Hz13, Hs22, Hc21, Hv3⟩
  iapply (part10_sound m ρ K c _ _)
  isplitr; · iexact HR
  isplitl [HO Hc14 Hat14 Ha3 Hv3 Ho3 Ht22 Hc19 Hat19 Hc20 Hat20]
  · unfold pend
    isplitl [HO]; · iexact HO
    isplitl [Hc14 Hat14]
    · isplitl [Hc14]; · iexact Hc14
      iexact Hat14
    isplitl [Ha3]; · iexact Ha3
    isplitl [Hv3]; · iexact Hv3
    isplitl [Ho3]; · iexact Ho3
    isplitl [Ht22]; · iexact Ht22
    isplitl [Hc19 Hat19]
    · isplitl [Hc19]; · iexact Hc19
      iexact Hat19
    isplitl [Hc20]; · iexact Hc20
    iexact Hat20
  iintro ⟨HO, Hz14, Hs23, Hc22, Hv3, Hz19, Hz20, ⟨Ho0, Ha0⟩, Ho1, Ha1⟩
  iapply (part11_sound m ρ K c _)
  isplitr; · iexact HR
  isplitl [HO Hc21 Hat21 Hc22 Hat22 Hc1 Hat1 Hc2 Hat2 Hc3 Hat3]
  · unfold pend
    isplitl [HO]; · iexact HO
    isplitl [Hc21 Hat21]
    · isplitl [Hc21]; · iexact Hc21
      iexact Hat21
    isplitl [Hc22 Hat22]
    · isplitl [Hc22]; · iexact Hc22
      iexact Hat22
    isplitl [Hc1 Hat1]
    · isplitl [Hc1]; · iexact Hc1
      iexact Hat1
    isplitl [Hc2 Hat2]
    · isplitl [Hc2]; · iexact Hc2
      iexact Hat2
    isplitl [Hc3]; · iexact Hc3
    iexact Hat3
  iintro ⟨HO, Hz21, Hz22, Hz1, Hz2, Hz3, ⟨Ho2, Ha2⟩, ⟨Ho3, Ha3⟩, Hx1, Hx3, Hq0⟩
  iapply (step_pend m ρ K c (q := 4) rfl (used_own c 4 (by decide)) _ _ _ _ (credit_x 128 _ _ _)) $$ [HO Hc4 Hat4]
  · isplitr; · iexact HR
    isplitl [HO]; · iexact HO
    unfold pend; isplitl [Hc4] <;> iassumption
  iintro ⟨HO, Hz4, H⟩
  ihave Hq1 := (Entails.of_eq (show payD m ρ c (4 : DmaSem sig).val = xP m ρ c (512 * (up 2 c).val + 128 * 1) 128 from rfl)) $$ H
  iapply (step_pend m ρ K c (q := 5) rfl (used_own c 5 (by decide)) _ _ _ _ (credit_x 128 _ _ _)) $$ [HO Hc5 Hat5]
  · isplitr; · iexact HR
    isplitl [HO]; · iexact HO
    unfold pend; isplitl [Hc5] <;> iassumption
  iintro ⟨HO, Hz5, H⟩
  ihave Hq2 := (Entails.of_eq (show payD m ρ c (5 : DmaSem sig).val = xP m ρ c (512 * (up 2 c).val + 128 * 2) 128 from rfl)) $$ H
  iapply (step_pend m ρ K c (q := 6) rfl (used_own c 6 (by decide)) _ _ _ _ (credit_x 128 _ _ _)) $$ [HO Hc6 Hat6]
  · isplitr; · iexact HR
    isplitl [HO]; · iexact HO
    unfold pend; isplitl [Hc6] <;> iassumption
  iintro ⟨HO, Hz6, H⟩
  ihave Hq3 := (Entails.of_eq (show payD m ρ c (6 : DmaSem sig).val = xP m ρ c (512 * (up 2 c).val + 128 * 3) 128 from rfl)) $$ H
  rw [wp_ret]
  imod (close_unused m ρ K c (recv_ne c) (unused_recv c).1) $$ [Hatr0] with Hzr0
  · isplitr; · iexact HR
    iexact Hatr0
  imod (close_unused m ρ K c (recv_ne (up 2 c)) (unused_recv c).2) $$ [Hatr2] with Hzr2
  · isplitr; · iexact HR
    iexact Hatr2
  imodintro
  ihave Hx := (Entails.of_eq (x_cut m ρ c).symm) $$ [Hx0 Hx1 Hq0 Hq1 Hq2 Hq3 Hx3]
  · isplitl [Hx0]; · iexact Hx0
    isplitl [Hx1]; · iexact Hx1
    isplitl [Hq0 Hq1 Hq2 Hq3]
    · isplitl [Hq0]; · iexact Hq0
      isplitl [Hq1]; · iexact Hq1
      isplitl [Hq2]; · iexact Hq2
      iexact Hq3
    iexact Hx3
  ihave Hg := (g_join m ρ c) $$ [Hg0 Hs1 Hs20 Hs21 Hs22 Hs23 Hs3]
  · isplitl [Hg0]; · iexact Hg0
    isplitl [Hs1]; · iexact Hs1
    isplitl [Hs20 Hs21 Hs22 Hs23]
    · isplitl [Hs20]; · iexact Hs20
      isplitl [Hs21]; · iexact Hs21
      isplitl [Hs22]; · iexact Hs22
      iexact Hs23
    iexact Hs3
  ihave Hv := (v_join m c) $$ [Hv0 Hv1 Hv2 Hv3]
  · isplitl [Hv0]; · iexact Hv0
    isplitl [Hv1]; · iexact Hv1
    isplitl [Hv2]; · iexact Hv2
    iexact Hv3
  ihave Hw := (Entails.of_eq (w_cut m c).symm) $$ [Hw0 Hw1 Hw2 Hw3]
  · isplitl [Hw0]; · iexact Hw0
    isplitl [Hw1]; · iexact Hw1
    isplitl [Hw2]; · iexact Hw2
    iexact Hw3
  ihave Ho := (Entails.of_eq (o_join m ρ c)) $$ [Ho0 Ho1 Ho2 Ho3]
  · isplitl [Ho0]; · iexact Ho0
    isplitl [Ho1]; · iexact Ho1
    isplitl [Ho2]; · iexact Ho2
    iexact Ho3
  ihave Ha := (a_join m ρ c) $$ [Ha0 Ha1 Ha2 Ha3]
  · isplitl [Ha0]; · iexact Ha0
    isplitl [Ha1]; · iexact Ha1
    isplitl [Ha2]; · iexact Ha2
    iexact Ha3
  iapply Hk
  unfold after own scratch
  isplitl [HO]; · iexact HO
  isplitl [HzB Hz1 Hz2 Hz3 Hz4 Hz5 Hz6 Hzr0 Hzr1 Hzr2 Hzr3 Hz11 Hz12 Hz13 Hz14 Hz15 Hz16 Hz17 Hz18 Hz19 Hz20 Hz21 Hz22]
  · isplitl [HzB]; · iexact HzB
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hzr0]; · iexact Hzr0
    isplitl [Hzr1]; · iexact Hzr1
    isplitl [Hzr2]; · iexact Hzr2
    isplitl [Hzr3]; · iexact Hzr3
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    isplitl [Hz18]; · iexact Hz18
    isplitl [Hz19]; · iexact Hz19
    isplitl [Hz20]; · iexact Hz20
    isplitl [Hz21]; · iexact Hz21
    iexact Hz22
  isplitl [Hg Hv Ha]
  · isplitl [Hg]; · iexact Hg
    isplitl [Hv]; · iexact Hv
    iexact Ha
  isplitl [Hx]; · iexact Hx
  isplitl [Hw]; · iexact Hw
  iexact Ho

end Cert.Gather

end
-- ==== Proof.Deal.lean ====
/-
# What the launch deals out

Before the bodies run, every semaphore's record is opened, the rights to the raises go to the devices that make them,
and each device gets the credits of what the others owe its semaphores.
-/
module

public import proofs.«01_k».proof.Proof.Body

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## The semaphores by number -/

/-- The kernel's own semaphores: DMA semaphores 1 to 22. -/
abbrev osem : Fin 22 → SemLoc sig := fun k => .dma (k.succ : Fin 23)

/-- The receive semaphore of slot `j`, counted among the own ones. -/
def slotNo (j : Dev nD) : Fin 22 := ⟨6 + j.val, by have := j.isLt; simp only [nD] at this; omega⟩
theorem slotNo_succ (j : Dev nD) : ((slotNo j).succ : DmaSem sig) = recvS j := by revert j; decide

/-- The own semaphores, the receive semaphores among them counted from `c`. -/
def ownNos (c : Dev nD) : List (Fin 22) :=
  [0, 1, 2, 3, 4, 5, slotNo c, slotNo (up 1 c), slotNo (up 2 c), slotNo (up 3 c), 10, 11, 12, 13, 14, 15, 16, 17, 18, 19, 20, 21]
theorem ownNos_all (c : Dev nD) : (Finset.univ : Finset (Fin 22)) = (ownNos c).toFinset ∧ (ownNos c).Nodup := by revert c; decide

omit [FloatOps F] in
/-- One thing for each own semaphore, by number; -/
theorem own_eq (c : Dev nD) (Φ : GSem nD τ sig → sProp 𝕄) :
    (bigSep Finset.univ fun k : Fin 22 => Φ ((c : Thread nD τ), osem k)) = own c Φ := by
  rw [bigSep_univ_eq_bigSepL (ownNos c) (ownNos_all c).1 (ownNos_all c).2]
  unfold own
  rw [← slotNo_succ c, ← slotNo_succ (up 1 c), ← slotNo_succ (up 2 c), ← slotNo_succ (up 3 c)]
  rfl
omit [FloatOps F] in
/-- the barrier's included. -/
theorem cells_eq (c : Dev nD) (Φ : GSem nD τ sig → sProp 𝕄) :
    (bigSep Finset.univ fun k : Fin 23 => Φ (kcell (c, k))) = iprop(Φ (bar c) ∗ own c Φ) := by
  rw [← own_eq, Fin.univ_succ, Finset.cons_eq_insert, bigSep_insert (by simp), bigSep_map]
  refine congrArg₂ (fun X Y => iprop(X ∗ Y)) (congrArg Φ (kcell_bar c)) (bigSep_congr fun k _ => congrArg Φ ?_)
  exact kcell_dma c (k := (k.succ : DmaSem sig)) (Nat.succ_ne_zero _)

omit [FloatOps F] in
/-- The own semaphores at zero, as the launch hands them over and takes them back, -/
theorem ownSems_eq (c : Dev nD) : (Pipeline.ownSems0 (Ix := Unit) (Name := ℕ) (U := UU) (Lvl := ℕ) (Val := Elt F) (τ := τ) osem c : sProp 𝕄)
    = own c fun g => semVal g 0 := by
  rw [← own_eq]; rfl
omit [FloatOps F] in
/-- and the barrier semaphore, which outlives the kernel. -/
theorem barSem_eq (c : Dev nD) : (unscopedSems0 c : sProp 𝕄) = semVal (bar c) 0 := by
  unfold unscopedSems0; rw [bigSep_eq_bigSepL_of_eq [SemLoc.reg barS] (by decide) (by decide)]; rfl

theorem kcell_injective : Function.Injective (kcell : Dev nD × Fin 23 → GSem nD τ sig) := by
  rintro ⟨c, k⟩ ⟨c', k'⟩ h
  have h1 : c = c' := congrArg (fun g : GSem nD τ sig => g.1.1) h
  have h2 : csem k = csem k' := congrArg Prod.snd h
  have h3 : ∀ a b : Fin 23, csem a = csem b → a = b := by decide
  rw [h1, h3 k k' h2]

/-! ## The rights to the raises -/

/-- The raises, numbered by the device that makes them. -/
def raise (cj : Dev nD × Fin 23) : GSem nD τ sig × ℕ × D :=
  match cj.2.val with
  | 0 => (bar (up 1 cj.1), 0, cj.1)
  | 1 => (bar (up 2 cj.1), 0, cj.1)
  | 2 => (bar (up 3 cj.1), 0, cj.1)
  | 3 => (dcell (up 1 cj.1) (recvS cj.1), 0, 0)
  | 4 => (dcell (up 3 cj.1) (recvS cj.1), 0, 0)
  | 5 => (dcell (up 2 cj.1) 11, 0, 0)
  | 6 => (dcell (up 2 cj.1) 12, 0, 0)
  | 7 => (dcell (up 2 cj.1) 13, 0, 0)
  | 8 => (dcell (up 2 cj.1) 14, 0, 0)
  | 9 => (dcell cj.1 1, 0, 0)
  | 10 => (dcell cj.1 2, 0, 0)
  | 11 => (dcell cj.1 3, 0, 0)
  | 12 => (dcell cj.1 4, 0, 0)
  | 13 => (dcell cj.1 5, 0, 0)
  | 14 => (dcell cj.1 6, 0, 0)
  | _ => (dcell cj.1 ⟨cj.2.val, cj.2.isLt⟩, 0, 0)

/-- No two of them are the same. -/
theorem raise_injective : Function.Injective raise := by
  have h : ∀ a b : Dev nD × Fin 23, raise a = raise b → a = b := by decide +kernel
  exact fun a b => h a b

omit [FloatOps F] in
/-- The rights of one device, from the list. -/
theorem rights_of (c : Dev nD) :
    (bigSep Finset.univ fun j : Fin 23 => (dutyTok ER (raise (c, j)).1 (raise (c, j)).2.1 (raise (c, j)).2.2 : sProp 𝕄)) ⊢ rights c := by
  rw [bigSep_univ_eq_bigSepL [0, 1, 2, 3, 4, 5, 6, 7, 8, 9, 10, 11, 12, 13, 14, 15, 16, 17, 18, 19, 20, 21, 22] (by decide) (by decide)]
  unfold rights
  show iprop(_ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ dutyTok ER (raise (c, 22)).1 (raise (c, 22)).2.1 (raise (c, 22)).2.2) ⊢ _
  iintro ⟨HtB1, HtB2, HtB3, Hr1, Hr3, Hd0, Hd1, Hd2, Hd3, H1, H2, H3, H4, H5, H6, H15, H16, H17, H18, H19, H20, H21, H22⟩
  isplitl [HtB1 HtB2 HtB3]
  · isplitl [HtB1]; · iexact HtB1
    isplitl [HtB2]; · iexact HtB2
    iexact HtB3
  isplitl [Hr1 Hr3]
  · isplitl [Hr1]; · iexact Hr1
    iexact Hr3
  isplitl [Hd0 Hd1 Hd2 Hd3]
  · isplitl [Hd0]; · iexact Hd0
    isplitl [Hd1]; · iexact Hd1
    isplitl [Hd2]; · iexact Hd2
    iexact Hd3
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [H15 H16 H17 H18]
  · isplitl [H15]; · iexact H15
    isplitl [H16]; · iexact H16
    isplitl [H17]; · iexact H17
    iexact H18
  isplitl [H19]; · iexact H19
  isplitl [H20]; · iexact H20
  isplitl [H21]; · iexact H21
  iexact H22

def allCells : Finset (GSem nD τ sig) := Finset.univ.map ⟨kcell, kcell_injective⟩
def allRaises : Finset (GSem nD τ sig × ℕ × D) := Finset.univ.map ⟨raise, raise_injective⟩

/-- What the launch starts from: the pipeline's records and the kernel's. -/
def u₀ : UU := (initOf (Pipeline.cells cfgs cellOf_inj) (Pipeline.launchToks cfgs cellOf_inj), initOf allCells allRaises)

/-- What that deals to device `c`: its semaphores' states, its places, and its rights. -/
def G (c : Dev nD) : sProp 𝕄 :=
  iprop((bigSep Finset.univ fun k : Fin 23 => roundState ER (sched m ρ) (kcell (c, k)) 0)
    ∗ (bigSep Finset.univ fun k : Fin 23 => iprop(atPos ER (kcell (c, k)) 0 ∅ 0 ∗ reached ER (kcell (c, k)) 0)) ∗ rights c)

/-- What a device holds once the records are open. -/
def G' (c : Dev nD) : sProp 𝕄 :=
  iprop((∃ K, records m ρ K) ∗ (atPos ER (bar c) 0 ∅ 0 ∗ own c fun g => atPos ER g 0 ∅ 0) ∗ rights c)

theorem fund_G : BI.own (ER (initOf allCells allRaises)) ⊢ (|==> bigSep Finset.univ (G m ρ) : sProp 𝕄) := by
  have hX (Φ : GSem nD τ sig → sProp 𝕄) : bigSep allCells Φ = bigSep Finset.univ fun c : Dev nD => bigSep Finset.univ fun k : Fin 23 => Φ (kcell (c, k)) := by
    unfold allCells; rw [bigSep_map, bigSep_univ_prod]; rfl
  have hT : bigSep allRaises (fun x => (dutyTok ER x.1 x.2.1 x.2.2 : sProp 𝕄)) ⊢ bigSep Finset.univ fun c : Dev nD => rights c := by
    unfold allRaises; rw [bigSep_map, bigSep_univ_prod]
    exact bigSep_mono fun c _ => rights_of c
  iintro HX
  imod (Rounds.fund ER (sched m ρ) allCells allRaises) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- One device's semaphores at zero and their states become records. -/
theorem open_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ rights c) := by
  unfold G
  iintro ⟨Hos, Hus, Hst, Hat, Htok⟩
  ihave Hv := (Entails.of_eq (show iprop((unscopedSems0 c : sProp 𝕄)
      ∗ Pipeline.ownSems0 (Ix := Unit) (Name := ℕ) (U := UU) (Lvl := ℕ) (Val := Elt F) (τ := τ) osem c)
        = bigSep Finset.univ fun k : Fin 23 => semVal (kcell (c, k)) 0 from by
    rw [ownSems_eq, barSem_eq, cells_eq c fun g => semVal g 0])) $$ [Hos Hus]
  · isplitl [Hus] <;> iassumption
  imod (show iprop((bigSep Finset.univ fun k : Fin 23 => semVal (kcell (c, k)) 0) ∗ bigSep Finset.univ fun k : Fin 23 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat] <;> iassumption

/-- The records of all devices together, for each of them. -/
theorem share_records :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ rights c) : sProp 𝕄)
      ⊢ bigSep Finset.univ (G' m ρ) := by
  rw [bigSep_sep', bigSep_sep', ← bigSep_univ_prod (fun ck : Dev nD × Fin 23 => iprop(∃ κ : ℕ, cellInv ER (sched m ρ) κ (kcell ck))),
    bigSep_congr (s := Finset.univ) (fun (c : Dev nD) _ => bigSep_sep' Finset.univ (fun k : Fin 23 => (atPos ER (kcell (c, k)) 0 ∅ 0 : sProp 𝕄)) (fun k => reached ER (kcell (c, k)) 0)),
    bigSep_sep', ← bigSep_univ_prod (fun ck : Dev nD × Fin 23 => (reached ER (kcell ck) 0 : sProp 𝕄))]
  iintro ⟨HI, ⟨Hat, #HR⟩, Htok⟩
  ihave HK := (BI.bigSep_exists_pi Finset.univ (fun (ck : Dev nD × Fin 23) (κ : ℕ) => (cellInv ER (sched m ρ) κ (kcell ck) : sProp 𝕄))) $$ HI
  icases HK with ⟨%K, #HI⟩
  unfold G'; simp only [bigSep_sep']
  isplitr
  · iapply (BI.bigSep_of_persistent Finset.univ (iprop(∃ K, records m ρ K) : sProp 𝕄))
    iexists K; unfold records; isplitl <;> iassumption
  isplitl [Hat]
  · rw [← bigSep_sep']
    iapply (Entails.of_eq (bigSep_congr fun c _ => cells_eq c fun g => (atPos ER g 0 ∅ 0 : sProp 𝕄)))
    iexact Hat
  iexact Htok

/-- The step for all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_cells m ρ c).trans (bigSep_fupd _ _)).trans (BI.fupd_mono (share_records m ρ))

/-! ## The credits -/

/-- How many quarters, how many blocks and how many raises the devices together owe a semaphore. -/
def owedQuarters (g : GSem nD τ sig) : ℕ := ∑ d : Dev nD, ((if g = dcell (up 2 d) 14 then 1 else 0) + (if g = dcell (up 2 d) 13 then 1 else 0)
  + (if g = dcell (up 2 d) 12 then 1 else 0) + (if g = dcell (up 2 d) 11 then 1 else 0))
def owedBlocks (g : GSem nD τ sig) : ℕ := ∑ d : Dev nD, ((if g = dcell (up 3 d) (recvS d) then 1 else 0) + (if g = dcell (up 1 d) (recvS d) then 1 else 0))
def owedRaises (g : GSem nD τ sig) : ℕ := ∑ d : Dev nD, ((if g = bar (up 3 d) then 1 else 0) + (if g = bar (up 2 d) then 1 else 0) + (if g = bar (up 1 d) then 1 else 0))

theorem owed_total (g : GSem nD τ sig) : ∑ d : Dev nD, owe9 d g () = crX 128 * owedQuarters g + crX 512 * owedBlocks g + owedRaises g := by
  have hd (d : Dev nD) : owe9 d g () = crX 128 * ((if g = dcell (up 2 d) 14 then 1 else 0) + (if g = dcell (up 2 d) 13 then 1 else 0)
        + (if g = dcell (up 2 d) 12 then 1 else 0) + (if g = dcell (up 2 d) 11 then 1 else 0))
      + crX 512 * ((if g = dcell (up 3 d) (recvS d) then 1 else 0) + (if g = dcell (up 1 d) (recvS d) then 1 else 0))
      + ((if g = bar (up 3 d) then 1 else 0) + (if g = bar (up 2 d) then 1 else 0) + (if g = bar (up 1 d) then 1 else 0)) := by
    unfold owe9 owe8 owe7 owe6 owe5 owe4 owe3 owe2 owe1
    simp only [Pi.add_apply, Finsupp.add_apply, tallyAt_apply, and_true, Nat.mul_add, mul_ite, Nat.mul_one, Nat.mul_zero]
    omega
  rw [Finset.sum_congr rfl fun d _ => hd d, Finset.sum_add_distrib, Finset.sum_add_distrib, ← Finset.mul_sum, ← Finset.mul_sum]
  rfl

omit [FloatOps F] in
/-- What the launch gives a semaphore's owner in credit: what the devices owe it. -/
theorem credit_at (g : GSem nD τ sig) (n : ℕ) (h : crX 128 * owedQuarters g + crX 512 * owedBlocks g + owedRaises g = n) :
    tallyOn g (launchCredit (Pipeline.owing owe9) 0 g) = (tallyAt g () n : CellTallies nD τ sig Unit) := by
  unfold tallyAt; refine congrArg _ (Finsupp.ext fun u => ?_); cases u
  rw [Pipeline.launchCredit_owing, Finsupp.single_eq_same, owed_total, h]

theorem owed_bar (c : Dev nD) : owedQuarters (bar c) = 0 ∧ owedBlocks (bar c) = 0 ∧ owedRaises (bar c) = 3 := by
  revert c; decide +kernel
theorem owed_quarter (c : Dev nD) (h : Fin 4) : owedQuarters (dcell c (diagS h)) = 1 ∧ owedBlocks (dcell c (diagS h)) = 0 ∧ owedRaises (dcell c (diagS h)) = 0 := by
  revert c h; decide +kernel
theorem owed_block (c : Dev nD) : (owedQuarters (dcell c (recvS (up 1 c))) = 0 ∧ owedBlocks (dcell c (recvS (up 1 c))) = 1 ∧ owedRaises (dcell c (recvS (up 1 c))) = 0)
    ∧ owedQuarters (dcell c (recvS (up 3 c))) = 0 ∧ owedBlocks (dcell c (recvS (up 3 c))) = 1 ∧ owedRaises (dcell c (recvS (up 3 c))) = 0 := by
  revert c; decide +kernel

/-- The semaphores of a device that others raise. -/
def credited (c : Dev nD) : List (SemLoc sig) :=
  [.reg barS, .dma (recvS (up 1 c)), .dma (recvS (up 3 c)), .dma (diagS 0), .dma (diagS 1), .dma (diagS 2), .dma (diagS 3)]
theorem credited_nodup (c : Dev nD) : (credited c).Nodup := by revert c; decide

omit [FloatOps F] in
/-- A device's credits at the launch. -/
theorem credits_of (c : Dev nD) : (Pipeline.launchCred owe9 c : sProp 𝕄) ⊢ credits c := by
  have hq (h : Fin 4) : tallyOn (dcell c (diagS h)) (launchCredit (Pipeline.owing owe9) 0 (dcell c (diagS h)))
      = (tallyAt (dcell c (diagS h)) () (crX 128) : CellTallies nD τ sig Unit) :=
    credit_at _ _ (by rw [(owed_quarter c h).1, (owed_quarter c h).2.1, (owed_quarter c h).2.2]; omega)
  have hb := credit_at (bar c) 3 (by rw [(owed_bar c).1, (owed_bar c).2.1, (owed_bar c).2.2]; omega)
  have h1 := credit_at (dcell c (recvS (up 1 c))) (amt (recvS (up 1 c)))
    (by rw [(owed_block c).1.1, (owed_block c).1.2.1, (owed_block c).1.2.2, amt_recv]; omega)
  have h3 := credit_at (dcell c (recvS (up 3 c))) (amt (recvS (up 3 c)))
    (by rw [(owed_block c).2.1, (owed_block c).2.2.1, (owed_block c).2.2.2, amt_recv]; omega)
  have hall : (bigSepL (credited c) fun sm : SemLoc sig =>
      (cred (tallyOn ((c : Thread nD τ), sm) (launchCredit (Pipeline.owing owe9) 0 ((c : Thread nD τ), sm))) : sProp 𝕄)) = credits c := by
    unfold credits
    show _ = iprop(cred (tallyAt (bar c) () 3) ∗ cred (tallyAt (dcell c (recvS (up 1 c))) () (amt (recvS (up 1 c))))
      ∗ cred (tallyAt (dcell c (recvS (up 3 c))) () (amt (recvS (up 3 c)))) ∗ cred (tallyAt (dcell c (diagS 0)) () (crX 128)) ∗ cred (tallyAt (dcell c (diagS 1)) () (crX 128))
      ∗ cred (tallyAt (dcell c (diagS 2)) () (crX 128)) ∗ cred (tallyAt (dcell c (diagS 3)) () (crX 128)))
    rw [← hb, ← h1, ← h3, ← hq 0, ← hq 1, ← hq 2, ← hq 3]
    rfl
  rw [← hall, ← bigSep_eq_bigSepL_of_eq (credited c) rfl (credited_nodup c)]
  exact bigSep_subset (Finset.subset_univ (credited c).toFinset)

end Cert.Gather

end
-- ==== Proof.Run.lean ====
/-
# The run

The pipeline around the body, and the run of the whole program on all devices: it ends, with every semaphore at zero,
the arguments as they were and `res` in each device's result.
-/
module

public import proofs.«01_k».proof.Proof.Deal
public import proofs.«01_k».proof.Proof.Gen.KernelIdeal.Launch
public import proofs.«01_k».proof.Proof.Gen.KernelIdeal.Points
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## Around the body -/

/-- What the launch gives device `c`'s body beside its buffers of the kernel, -/
def start (c : Dev nD) : sProp 𝕄 :=
  iprop(G' m ρ c ∗ credits c ∗ levAts L lv ∗ (((c : Thread nD τ).loc main_arg1) ↦{fullShare} wIn m c)
    ∗ ∃ f : Buf (Elt F) ((c : Thread nD τ).loc main_v1), ((c : Thread nD τ).loc main_v1) ↦{fullShare} f)
/-- and what the body leaves. -/
def finish (c : Dev nD) : sProp 𝕄 :=
  iprop((semVal (bar c) 0 ∗ own c fun g => semVal g 0) ∗ (((c : Thread nD τ).loc main_arg1) ↦{fullShare} wIn m c)
    ∗ ((c : Thread nD τ).loc main_v1) ↦{fullShare} res m ρ c)

/-- The pipeline's data: `x` staged whole and left as it is, everything owed at the start and nothing at the end. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
  Φ t := match t with
    | ⟨0, _⟩ => iprop(start m ρ c ∗ scratch c)
    | ⟨_ + 1, _⟩ => iprop(finish m ρ c ∗ scratch c)
  q _ := fullShare
  owed t := match t with
    | ⟨0, _⟩ => owe9 c
    | ⟨_ + 1, _⟩ => 0

/-- A buffer whole at given contents, as the pipeline hands it over. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns held; simp only [Memref.view_whole, View.read_whole, View.set_whole]

set_option maxRecDepth 4000 in
/-- At its one grid point the pipeline's body does what the pipeline asks of it. -/
theorem body_obligation (c : Dev nD) : BodyObligation (dats (F := F) m ρ 0 c) (defs₀ (F := F)) 𝒱₀ () Set.univ := fun t => by
  rw [fin_N0 t]
  rw [bigSep_W0, bigSep_W0]
  simp only [owns_held]
  show iprop((start m ρ c ∗ scratch c) ∗ (dats m ρ 0 c).owesAt () t0_0.castSucc
      ∗ ∃ d, held c cc0_stg0_0 ((dats m ρ 0 c).before (0 : Fin 1) t0_0 d))
    ⊢ wp frame (wpE (defs₀ (F := F)) 𝒱₀ (c : Thread nD τ) none) Set.univ
      (cc0_body xM (Memref.isWhole_whole _) wM (Memref.isWhole_whole _) oM (Memref.isWhole_whole _) gM (Memref.isWhole_whole _)
        vM (Memref.isWhole_whole _) aM (Memref.isWhole_whole _) cc0_scratch3 cc0_scratch4 cc0_scratch5 cc0_scratch6 cc0_scratch7)
      (fun _ => iprop((finish m ρ c ∗ scratch c) ∗ (dats m ρ 0 c).owesAt () t0_0.succ ∗ held c cc0_stg0_0 (xIn m ρ c)))
  unfold start G' Dat.owesAt Pipeline.owesWithin
  iintro ⟨⟨⟨⟨⟨%K, #HR⟩, Hat, Ht⟩, Hcr, #Hlev, Hw, Ho⟩, Hs⟩, ⟨%W, %hW, HO⟩, ⟨%d, %g, %hg, Hx⟩⟩
  have hx : g = xIn m ρ c := by rw [hg]; unfold Dat.before; rw [if_pos (fetch0_0 t0_0)]; rfl
  subst hx
  rw [show (dats m ρ 0 c).owed t0_0.castSucc = owe9 c from rfl, show (dats m ρ 0 c).owed t0_0.succ = 0 from rfl]
  iapply (body_sound m ρ K c _)
  isplitr; · iexact HR
  isplitl [Hat Ht Hcr Hw Ho Hs Hx]
  · unfold before
    isplitr; · iexact Hlev
    isplitl [Hcr]; · iexact Hcr
    isplitl [Hat]; · iexact Hat
    isplitl [Ht]; · iexact Ht
    isplitl [Hs]; · iexact Hs
    isplitl [Hx]; · iexact Hx
    isplitl [Hw] <;> iassumption
  isplitl [HO]; · unfold dues; iexists W; iexact HO
  unfold dues after finish
  iintro ⟨⟨%W', HO⟩, Hz, Hs, Hx, Hw, Ho⟩
  isplitl [Hz Hw Ho Hs]
  · isplitr [Hs]
    · isplitl [Hz]; · iexact Hz
      isplitl [Hw] <;> iassumption
    · iexact Hs
  isplitl [HO]
  · iexists W'
    isplitr; · ipureintro; exact fun _ _ => Or.inl trivial
    iexact HO
  iexists _; isplitr; · (ipureintro; rfl)
  iexact Hx

/-! ## The launch -/

theorem ownSemFacts : Pipeline.OwnSemFacts cfg0.spec osem := by decide

theorem share_eq (c : Dev nD) (w : Fin cfg0.W) : (dats m ρ 0 c).share w = fullShare := by unfold Dat.share; split <;> rfl

/-- What is dealt to a device makes its start; -/
theorem start_of (c : Dev nD) :
    iprop(Pipeline.unscopedRestP Pipeline.Prefetch.none cfg0.spec c (fun b => m ((c : Thread nD τ).loc b)) ∗ levAts L lv
        ∗ Pipeline.launchCred owe9 c ∗ prngReg c (ρ c) ∗ G' m ρ c)
      ⊢ |={Set.univ}=> iprop(start m ρ c ∗ emp) := by
  rw [Pipeline.unscopedRestP_none, unscopedRest0_eq]
  iintro ⟨⟨Hw, Ho⟩, Hlev, Hcr, -, HG⟩
  ihave Hc := (credits_of (F := F) c) $$ Hcr
  imodintro
  unfold start
  isplitl
  · isplitl [HG]; · iexact HG
    isplitl [Hc]; · iexact Hc
    isplitl [Hlev]; · iexact Hlev
    isplitl [Hw]; · iexact Hw
    iexists _; iexact Ho
  · iempintro

/-- with the scratch buffers it is what the body begins with; -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch c) from rfl, scopedRest0_eq]
  iintro ⟨Hs, -, Hr⟩
  isplitl [Hs]; · iexact Hs
  unfold scratch; iexact Hr

/-- What outlives the kernel: the barrier semaphore at zero, `w` and the result. -/
def left (c : Dev nD) : sProp 𝕄 :=
  iprop(unscopedSems0 c ∗ (((c : Thread nD τ).loc main_arg1) ↦{fullShare} wIn m c) ∗ ((c : Thread nD τ).loc main_v1) ↦{fullShare} res m ρ c)

/-- at the end the kernel's own semaphores and scratch buffers are given back. -/
theorem leave (c : Dev nD) :
    (dats m ρ 0 c).Φ (Fin.last cfg0.N) ⊢ iprop(left m ρ c ∗ Pipeline.ownSems0 osem c ∗ Pipeline.scopedRest cfg0.spec c) := by
  rw [show (dats m ρ 0 c).Φ (Fin.last cfg0.N) = iprop(finish m ρ c ∗ scratch c) from rfl, scopedRest0_eq, ownSems_eq]
  unfold left finish; rw [barSem_eq]
  iintro ⟨⟨⟨HB, Hz⟩, Hw, Ho⟩, Hs⟩
  isplitl [HB Hw Ho]
  · isplitl [HB]; · iexact HB
    isplitl [Hw] <;> iassumption
  isplitl [Hz]; · iexact Hz
  unfold scratch; iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The end -/

/-- Of a final memory: on device `c` the barrier semaphore is at zero, `w` as it was, and the result is `res`. -/
def Ends (c : Dev nD) (s : MemSt nD τ sig (Elt F)) : Prop :=
  (∀ sm : SemLoc sig, sm.isScoped .tc = false → s.sem ((c.tc : Thread nD τ), sm) = 0)
    ∧ s.mem ((c : Thread nD τ).loc main_arg1) = wIn m c ∧ s.mem ((c : Thread nD τ).loc main_v1) = res m ρ c

/-- What a device is left with says so of the memory. -/
theorem left_read (c : Dev nD) (s' : Phys nD τ sig (Elt F)) :
    iprop(left m ρ c ∗ emp ∗ SI s') ⊢ |={Set.univ}=> iprop(⌜Ends m ρ c s'.mem⌝ ∗ SI s') := by
  unfold left
  iintro ⟨⟨Hu, Hw, Ho⟩, -, HSI⟩
  icombine HSI Hw gives %hw
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ hw, Buf.eq_of_forall_mem_univ ho⟩
  iexact HSI

set_option maxRecDepth 8000 in
/-- On the mesh of four devices, for any float values and from any memory: every execution of the program ends, with all
    semaphores at zero, both arguments as they were, and on each device `res` in the result. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = res m ρ c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := owe9) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_G m ρ) $$ HX with HG
      imodintro
      isplitl [HP] <;> iassumption)
    (hglob := glob m ρ)
    (hA := fun _ _ => rfl) (hpf := fun _ k => k.elim0)
    (X := start m ρ) (Y := left m ρ) (Z := fun _ => iprop(emp))
    (hX := start_of m ρ) (hin := enter m ρ) (hout := leave m ρ)
    (QY := Ends m ρ) (hY := left_read m ρ)
    (hQ := fun s h hs => ⟨fun c => ⟨((h c).1 0).trans ((dats (F := F) m ρ 0 c).arrAt_in (0 : Fin 1) rfl _), (h c).2.2.2.1, (h c).2.2.2.2⟩,
      sem_eq_zero hs fun c => (h c).2.2.1⟩)

end Cert.Gather

end
-- ==== Proof.Value.lean ====
/-
# The values, with exact arithmetic

With extended reals for floats, the result of device `c` at row `r` and column `n` is a sum of four products of a row
of a column block of `x` with a column of a row block of `w`, in the order in which the kernel adds them; these are the
four parts of the product of the whole matrices there.
-/
module

public import proofs.«01_k».proof.Proof.Contents
public import proofs.«01_k».proof.Proof.Gen.ReferenceIdeal.Run
public import Idealize.ShloMosaic.Lib.MatmulPlain
public import Idealize.ShloMosaic.Lib.StackMember
public import Idealize.ShloMosaic.Lib.Pointwise.Sums
public import Idealize.ShloMosaic.Lib.Layout

@[expose] public section

noncomputable section

namespace Cert.Gather

open Cert.KernelIdeal Cert.KernelIdeal.Gen

open Idealize.ShloMosaic hiding ix1 ix2 ix3 eq_ix2
open Idealize.ShloMosaic.TcCoe
open Idealize.ShloMosaic.ValueIdx

variable (m : (ℓ : Loc nD τ sig) → Buf (Elt Ideal) ℓ) (ρ : Dev nD → PrngReg)

/-! ## The payloads, at an index -/

theorem pay1_at (a : Vec Ideal S512x512 .bf16) (b : Vec Ideal S1x512x2048 .bf16) (r : Fin 512) (n : Fin 2048) :
    k0_pay1 a b (ix2 r n) = ∑ k : Fin 512, (a (ix2 r k) * b (ix3 0 k n) : EReal) := by
  unfold k0_pay1
  simp only [shapeCast_self]
  refine (Ideal.matmul_plain_apply none a (shapeCast S512x2048 b shapeCasts_S1x512x2048_S512x2048) _ r n).trans ?_
  refine (congrArg₂ (· + ·) Ideal.ofBits_zero_f32 (Finset.sum_congr rfl fun k _ => ?_)).trans (zero_add _)
  exact congrArg (a (ix2 r k) * ·) (shapeCast_1ab_ab_apply b _ k n)

theorem pay2_at (v : Vec Ideal S512x2048 .f32) (a : Vec Ideal S1x512x512 .bf16) (b : Vec Ideal S1x512x2048 .bf16) (r : Fin 512) (n : Fin 2048) :
    k0_pay2 v a b (ix2 r n) = (v (ix2 r n) + ∑ k : Fin 512, (a (ix3 0 r k) * b (ix3 0 k n) : EReal) : EReal) := by
  unfold k0_pay2
  simp only [shapeCast_self]
  refine congrArg (v (ix2 r n) + ·) ?_
  refine (Ideal.matmul_plain_apply none (shapeCast S512x512 a shapeCasts_S1x512x512_S512x512)
    (shapeCast S512x2048 b shapeCasts_S1x512x2048_S512x2048) _ r n).trans ?_
  refine (congrArg₂ (· + ·) Ideal.ofBits_zero_f32 (Finset.sum_congr rfl fun k _ => ?_)).trans (zero_add _)
  exact congrArg₂ (· * ·) (shapeCast_1ab_ab_apply a _ r k) (shapeCast_1ab_ab_apply b _ k n)

/-- The third product is taken as the second is. -/
theorem pay4_eq (v : Vec Ideal S512x2048 .f32) (a : Vec Ideal S1x512x512 .bf16) (b : Vec Ideal S1x512x2048 .bf16) :
    k0_pay4 v (k0_pay3 a) b = k0_pay2 v a b := rfl

theorem pay7_at (v : Vec Ideal S128x2048 .f32) (a : Vec Ideal S1x128x512 .bf16) (b : Vec Ideal S1x512x2048 .bf16) (r : Fin 128) (n : Fin 2048) :
    k0_pay7 v a b (ix2 r n) = (v (ix2 r n) + ∑ k : Fin 512, (a (ix3 0 r k) * b (ix3 0 k n) : EReal) : EReal) := by
  unfold k0_pay7
  simp only [shapeCast_self]
  refine congrArg (v (ix2 r n) + ·) ?_
  refine (Ideal.matmul_plain_apply none (shapeCast S128x512 a shapeCasts_S1x128x512_S128x512)
    (shapeCast S512x2048 b shapeCasts_S1x512x2048_S512x2048) _ r n).trans ?_
  refine (congrArg₂ (· + ·) Ideal.ofBits_zero_f32 (Finset.sum_congr rfl fun k _ => ?_)).trans (zero_add _)
  exact congrArg₂ (· * ·) (shapeCast_1ab_ab_apply a _ r k) (shapeCast_1ab_ab_apply b _ k n)

/-! ## The result, at an index -/

/-- The staged block is the whole of the argument. -/
theorem xIn_at (c : Dev nD) (r : Fin 2048) (k : Fin 512) :
    (xIn m ρ c : S2048x512.Idx → EReal) (ix2 r k) = (m ((c : Thread nD τ).loc main_arg0) : S2048x512.Idx → EReal) (ix2 r k) :=
  read_moved (Val := Elt Ideal) main_arg0 _ _ _ _ (ix2 r k) (ix2 r k) fun a => by
    match a with
    | ⟨0, _⟩ => exact (Nat.zero_add _).symm
    | ⟨1, _⟩ => exact (Nat.zero_add _).symm

/-- A device's column block of `x`, and its copy of `w`, as functions into the extended reals. -/
abbrev xArg (j : Dev nD) : S2048x512.Idx → EReal := m ((j : Thread nD τ).loc main_arg0)
abbrev wArg (c : Dev nD) : S2048x2048.Idx → EReal := m ((c : Thread nD τ).loc main_arg1)

/-- Row `r` of row block `c` of device `j`'s column block, times column `n` of row block `j` of `w`. -/
def part (c j : Dev nD) (r : Fin 512) (n : Fin 2048) : EReal :=
  ∑ k : Fin 512, xArg m j (ix2 (row c r) k) * wArg m c (ix2 (row j k) n)

theorem res_sum (c : Dev nD) (r : Fin 512) (n : Fin 2048) :
    (res m ρ c : S512x2048.Idx → EReal) (ix2 r n)
      = part m c c r n + part m c (up 3 c) r n + part m c (up 1 c) r n + part m c (up 2 c) r n := by
  have hr : r.val < 512 := r.isLt
  obtain ⟨h, q, rfl⟩ : ∃ (h : Fin 4) (q : Fin 128), r = row' h q :=
    ⟨⟨r.val / 128, by omega⟩, ⟨r.val % 128, by omega⟩, Fin.ext (by show r.val = 128 * (r.val / 128) + r.val % 128; omega)⟩
  refine (res_at m ρ c h q n).trans ?_
  refine (pay7_at _ _ _ q n).trans (congrArg₂ (· + ·) ?_ (Finset.sum_congr rfl fun k _ => congrArg₂ (· * ·) (xIn_at m ρ _ _ _) rfl))
  show acc3 m ρ c (ix2 (row' h q) n) = _
  unfold acc3; rw [pay4_eq]
  refine (pay2_at _ _ _ _ n).trans (congrArg₂ (· + ·) ?_ (Finset.sum_congr rfl fun k _ => congrArg₂ (· * ·) (xIn_at m ρ _ _ _) rfl))
  refine (pay2_at _ _ _ _ n).trans (congrArg₂ (· + ·) ?_ (Finset.sum_congr rfl fun k _ => congrArg₂ (· * ·) (xIn_at m ρ _ _ _) rfl))
  exact (pay1_at _ _ _ n).trans (Finset.sum_congr rfl fun k _ => congrArg₂ (· * ·) (xIn_at m ρ _ _ _) rfl)

/-- The four devices, from any of them on in the kernel's order. -/
theorem sum_round (g : Dev nD → EReal) (c : Dev nD) : g c + g (up 3 c) + g (up 1 c) + g (up 2 c) = ∑ j : Dev nD, g j := by
  rw [show (∑ j : Dev nD, g j) = g 0 + g 1 + g 2 + g 3 from Fin.sum_univ_four g]
  fin_cases c
  · show g 0 + g 3 + g 1 + g 2 = _; abel
  · show g 1 + g 0 + g 2 + g 3 = _; abel
  · show g 2 + g 1 + g 3 + g 0 = _; abel
  · show g 3 + g 2 + g 0 + g 1 = _; abel

/-! ## The product of the whole matrices -/

/-- A whole matrix, with extended reals as elements. -/
abbrev Whole : Type := S2048x2048.Idx → EReal

/-- What the reference computes of its two arguments. -/
def whole (X W : Whole) : Whole := fun i => ∑ k : Fin 2048, X (ix2 (i 0) k) * W (ix2 k (i 1))

/-- The reference's term is that. -/
theorem reference_eq (X W : Whole) :
    extf .f32 (truncf .bf16 (Host.dotGeneral (F := Ideal) (φ₁ := .bf16) (φ₂ := .bf16) Cert.ReferenceIdeal.dot_S2048x2048_S2048x2048_S2048x2048_1_0_0_1_n_n none X W)
      Cert.ReferenceIdeal.Facts₀.bitsLt_bf16_f32) Cert.ReferenceIdeal.Facts₀.bitsLt_bf16_f32 = whole X W := by
  funext i
  rw [eq_ix2 (n0 := 2048) (n1 := 2048) i]
  exact StackMember.dotGeneral_plain_apply (m := 2048) (n := 2048) (k := 2048) (φ₁ := .bf16) (φ₂ := .bf16) none X W (i 0) (i 1)

/-- If the devices hold the column blocks of `X` and each the whole of `W`, device `c`'s result is row block `c` of
    their product. -/
theorem res_block (X W : Whole)
    (hX : ∀ c : Dev nD, m ((c : Thread nD τ).loc main_arg0) = Layout.block ⟨2, ![2048, 512]⟩ ⟨2, ![2048, 2048]⟩ 1 4 c X)
    (hW : ∀ c : Dev nD, m ((c : Thread nD τ).loc main_arg1) = W) (c : Dev nD) :
    res m ρ c = Layout.block ⟨2, ![512, 2048]⟩ ⟨2, ![2048, 2048]⟩ 0 4 c (whole X W) := by
  funext i
  obtain ⟨r, n, rfl⟩ : ∃ (r : Fin 512) (n : Fin 2048), i = ix2 r n := ⟨i 0, i 1, eq_ix2 (n0 := 512) (n1 := 2048) i⟩
  refine (res_sum m ρ c r n).trans ((sum_round (fun j => part m c j r n) c).trans ?_)
  rw [Layout.block_apply]; unfold whole; rw [Fin.sum_univ_tiles 4 512 rfl]
  refine Finset.sum_congr rfl fun j _ => Finset.sum_congr rfl fun k _ => ?_
  rw [show xArg m j = _ from hX j, show wArg m c = W from hW c]
  refine congrArg₂ (· * ·) (congrArg X ?_) (congrArg W ?_)
  · funext a; apply Fin.ext
    match a with
    | ⟨0, _⟩ => show 512 * c.val + r.val = c.val * 512 + r.val; omega
    | ⟨1, _⟩ => rfl
  · funext a; apply Fin.ext
    match a with
    | ⟨0, _⟩ => show 512 * j.val + k.val = j.val * 512 + k.val; omega
    | ⟨1, _⟩ => rfl

end Cert.Gather

end
-- ==== Proof.lean ====
/-
# The claims

The two frames of the kernel are its run, at machine floats and at exact ones; the reference's frame is its run. The
algebraic claim puts the two runs together: the value is the product of the whole matrices.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The two prints of the kernel have one text. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs (Cert.Kernel.pcfgs (F := Bits))) defs₀_eq

/-- With machine floats the kernel ends, its arguments unchanged and all semaphores at zero; -/
theorem frame_kernel : Cert.quiescent_Kernel := fun m ρ _ => by
  have h : θ_run (Cert.KernelIdeal.defs (F := Bits)) (onTc (τ := Cert.KernelIdeal.τ) (Cert.KernelIdeal.main (F := Bits))) (Cert.Gather.s₀ m ρ)
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
    (θ_run Cert.KernelIdeal.defs _ _).mono (fun _ h => ⟨fun c => ⟨(h.1 c).1, (h.1 c).2.1⟩, h.2⟩) (Cert.Gather.run_main (F := Bits) m ρ)
  rw [defs_eq]
  exact h

/-- so it does with exact ones, -/
theorem frame_ideal : Cert.quiescent_KernelIdeal := fun m ρ _ =>
  (θ_run Cert.KernelIdeal.defs _ _).mono (fun _ h => ⟨fun c => ⟨(h.1 c).1, (h.1 c).2.1⟩, h.2⟩) (Cert.Gather.run_main (F := Ideal) m ρ)

/-- and so does the reference, which has no semaphore. -/
theorem frame_reference : Cert.quiescent_ReferenceIdeal := fun m ρ _ =>
  (θ_run Cert.ReferenceIdeal.defs _ _).mono (fun _ h => ⟨fun c => (h c).2, funext fun ⟨_, s⟩ => by
    rcases s with s | s <;> exact s.elim0⟩) (Cert.ReferenceIdeal.Value.run (F := Ideal) m ρ)

/-- With exact arithmetic the devices end with the row blocks of the reference's result. -/
theorem value : Cert.algebraic_KernelIdeal_ReferenceIdeal := fun m ρ m' ρ' _ hm =>
  ⟨Cert.Gather.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.2.trans (Cert.Gather.res_block m ρ _ _ (fun c => (hm c).1) (fun c => (hm c).2) c), (h.1 c).1, (h.1 c).2.1⟩)
      (Cert.Gather.run_main (F := Ideal) m ρ),
    (θ_run Cert.ReferenceIdeal.defs _ _).mono
      (fun _ h => ⟨(h 0).1.trans (Cert.Gather.reference_eq _ _), (h 0).2⟩)
      (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, value⟩

end Cert.Proof

end
